-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x7168 : Shape := ⟨3, ![2, 128, 7168]⟩
abbrev S7168x4800 : Shape := ⟨2, ![7168, 4800]⟩
abbrev S_ : Shape := ⟨0, ![]⟩
abbrev S1 : Shape := ⟨1, ![1]⟩
abbrev S256x7168 : Shape := ⟨2, ![256, 7168]⟩
abbrev S256x19200 : Shape := ⟨2, ![256, 19200]⟩
abbrev S7168x256 : Shape := ⟨2, ![7168, 256]⟩
abbrev S256x128 : Shape := ⟨2, ![256, 128]⟩
abbrev S256x256 : Shape := ⟨2, ![256, 256]⟩
abbrev S64x256 : Shape := ⟨2, ![64, 256]⟩

abbrev nBuf : Space → Nat
  | .hbm => 6
  | .vmem => 4
  | .smem => 1
  | _ => 0

abbrev bufTy : (tb : Table) → Fin (tcTables nBuf tb) → BufTy
  | .hbm, ⟨0, _⟩ => ⟨S2x128x7168, .bf16⟩
  | .hbm, ⟨1, _⟩ => ⟨S7168x4800, .i8⟩
  | .hbm, ⟨2, _⟩ => ⟨S_, .f32⟩
  | .hbm, ⟨3, _⟩ => ⟨S1, .f32⟩
  | .hbm, ⟨4, _⟩ => ⟨S256x7168, .bf16⟩
  | .hbm, ⟨5, _⟩ => ⟨S256x19200, .bf16⟩
  | .local _ .vmem, ⟨0, _⟩ => ⟨S256x7168, .bf16⟩
  | .local _ .vmem, ⟨1, _⟩ => ⟨S7168x256, .i8⟩
  | .local _ .vmem, ⟨2, _⟩ => ⟨S7168x256, .i8⟩
  | .local _ .vmem, ⟨3, _⟩ => ⟨S256x19200, .bf16⟩
  | .local _ .smem, ⟨0, _⟩ => ⟨S1, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![19], ![false]⟩

def k0_mult1 (i : grid0.Coords) : BitVec 32 :=
  let c0_i32_195 : BitVec 32 := 0#32
  let arg0 : BitVec 32 := BitVec.ofNat 32 (i 0).val
  let c256_i32 : BitVec 32 := 256#32
  let v401 : BitVec 32 := Scalar.muli arg0 c256_i32
  let v402 : BitVec 32 := Scalar.addi c0_i32_195 v401
  v402
def k0_off1 (i : grid0.Coords) (c0_i32_195 : BitVec 32) : Fin 2 → Nat :=
  let c0_196 : Index := 0#32
  let arg0 : BitVec 32 := BitVec.ofNat 32 (i 0).val
  let c256_i32 : BitVec 32 := 256#32
  let v401 : BitVec 32 := Scalar.muli arg0 c256_i32
  let v402 : BitVec 32 := Scalar.addi c0_i32_195 v401
  let v404 : BitVec 32 := v402
  let v405 : Index := Scalar.indexCast v404
  ![0, v405.toNat]
def k0_off1_at (r : Fin 4) : BitVec 32 :=
  if r.val < 2 then
    if r.val < 1 then
      0#32
    else
      4736#32
  else
    if r.val < 3 then
      9600#32
    else
      14336#32
def k0_cond1 (i : grid0.Coords) : BitVec 1 :=
  let arg0 : BitVec 32 := BitVec.ofNat 32 (i 0).val
  let c18_i32 : BitVec 32 := 18#32
  let v407 : BitVec 1 := Scalar.cmpi .slt arg0 c18_i32
  let v408 : BitVec 32 := Scalar.extui v407
  let c0_i32_197 : BitVec 32 := 0#32
  let v409 : BitVec 1 := Scalar.cmpi .ne v408 c0_i32_197
  v409

def k0_mult2 (i : grid0.Coords) : BitVec 32 :=
  let c0_i32_195 : BitVec 32 := 0#32
  let arg0 : BitVec 32 := BitVec.ofNat 32 (i 0).val
  let c256_i32 : BitVec 32 := 256#32
  let v401 : BitVec 32 := Scalar.muli arg0 c256_i32
  let v402 : BitVec 32 := Scalar.addi c0_i32_195 v401
  let c128_i32_895 : BitVec 32 := 128#32
  let v1662 : BitVec 32 := Scalar.addi v402 c128_i32_895
  v1662
def k0_off2 (i : grid0.Coords) : Fin 2 → Nat :=
  let c0_896 : Index := 0#32
  let c0_i32_195 : BitVec 32 := 0#32
  let arg0 : BitVec 32 := BitVec.ofNat 32 (i 0).val
  let c256_i32 : BitVec 32 := 256#32
  let v401 : BitVec 32 := Scalar.muli arg0 c256_i32
  let v402 : BitVec 32 := Scalar.addi c0_i32_195 v401
  let c128_i32_895 : BitVec 32 := 128#32
  let v1662 : BitVec 32 := Scalar.addi v402 c128_i32_895
  let v1664 : BitVec 32 := v1662
  let v1665 : Index := Scalar.indexCast v1664
  ![0, v1665.toNat]
def k0_cond2 (i : grid0.Coords) : BitVec 1 :=
  let arg0 : BitVec 32 := BitVec.ofNat 32 (i 0).val
  let c18_i32_198 : BitVec 32 := 18#32
  let v410 : BitVec 1 := Scalar.cmpi .eq arg0 c18_i32_198
  let v411 : BitVec 32 := Scalar.extui v410
  let c0_i32_199 : BitVec 32 := 0#32
  let v412 : BitVec 1 := Scalar.cmpi .ne v411 c0_i32_199
  v412

def k0_mult3 (i : grid0.Coords) : BitVec 32 :=
  let c0_i32_195 : BitVec 32 := 0#32
  let arg0 : BitVec 32 := BitVec.ofNat 32 (i 0).val
  let c256_i32 : BitVec 32 := 256#32
  let v401 : BitVec 32 := Scalar.muli arg0 c256_i32
  let v402 : BitVec 32 := Scalar.addi c0_i32_195 v401
  let c128_i32_896 : BitVec 32 := 128#32
  let v1663 : BitVec 32 := Scalar.addi v402 c128_i32_896
  v1663
def k0_off3 (i : grid0.Coords) : Fin 2 → Nat :=
  let c0_897 : Index := 0#32
  let c0_i32_195 : BitVec 32 := 0#32
  let arg0 : BitVec 32 := BitVec.ofNat 32 (i 0).val
  let c256_i32 : BitVec 32 := 256#32
  let v401 : BitVec 32 := Scalar.muli arg0 c256_i32
  let v402 : BitVec 32 := Scalar.addi c0_i32_195 v401
  let c128_i32_896 : BitVec 32 := 128#32
  let v1663 : BitVec 32 := Scalar.addi v402 c128_i32_896
  let v1664 : BitVec 32 := v1663
  let v1665 : Index := Scalar.indexCast v1664
  ![0, v1665.toNat]
def k0_mult4 (i : grid0.Coords) : BitVec 32 :=
  let c0_i32_195 : BitVec 32 := 0#32
  let arg0 : BitVec 32 := BitVec.ofNat 32 (i 0).val
  let c256_i32 : BitVec 32 := 256#32
  let v401 : BitVec 32 := Scalar.muli arg0 c256_i32
  let v402 : BitVec 32 := Scalar.addi c0_i32_195 v401
  let c128_i32_895 : BitVec 32 := 128#32
  let v1662 : BitVec 32 := Scalar.addi v402 c128_i32_895
  v1662
def k0_mult5 (i : grid0.Coords) : BitVec 32 :=
  let c4736_i32 : BitVec 32 := 4736#32
  let arg0 : BitVec 32 := BitVec.ofNat 32 (i 0).val
  let c256_i32_424 : BitVec 32 := 256#32
  let v810 : BitVec 32 := Scalar.muli arg0 c256_i32_424
  let v811 : BitVec 32 := Scalar.addi c4736_i32 v810
  v811
def k0_mult6 (i : grid0.Coords) : BitVec 32 :=
  let c4736_i32 : BitVec 32 := 4736#32
  let arg0 : BitVec 32 := BitVec.ofNat 32 (i 0).val
  let c256_i32_424 : BitVec 32 := 256#32
  let v810 : BitVec 32 := Scalar.muli arg0 c256_i32_424
  let v811 : BitVec 32 := Scalar.addi c4736_i32 v810
  v811
def k0_mult7 (i : grid0.Coords) : BitVec 32 :=
  let c4736_i32 : BitVec 32 := 4736#32
  let arg0 : BitVec 32 := BitVec.ofNat 32 (i 0).val
  let c256_i32_424 : BitVec 32 := 256#32
  let v810 : BitVec 32 := Scalar.muli arg0 c256_i32_424
  let v811 : BitVec 32 := Scalar.addi c4736_i32 v810
  let c128_i32 : BitVec 32 := 128#32
  let v824 : BitVec 32 := Scalar.addi v811 c128_i32
  v824
def k0_off4 (i : grid0.Coords) (c4736_i32 : BitVec 32) : Fin 2 → Nat :=
  let c0_429 : Index := 0#32
  let arg0 : BitVec 32 := BitVec.ofNat 32 (i 0).val
  let c256_i32_424 : BitVec 32 := 256#32
  let v810 : BitVec 32 := Scalar.muli arg0 c256_i32_424
  let v811 : BitVec 32 := Scalar.addi c4736_i32 v810
  let c128_i32 : BitVec 32 := 128#32
  let v824 : BitVec 32 := Scalar.addi v811 c128_i32
  let v827 : BitVec 32 := v824
  let v828 : Index := Scalar.indexCast v827
  ![0, v828.toNat]
def k0_cond3 (i : grid0.Coords) : BitVec 1 :=
  let arg0 : BitVec 32 := BitVec.ofNat 32 (i 0).val
  let c18_i32_430 : BitVec 32 := 18#32
  let v830 : BitVec 1 := Scalar.cmpi .slt arg0 c18_i32_430
  let v831 : BitVec 32 := Scalar.extui v830
  let c0_i32_431 : BitVec 32 := 0#32
  let v832 : BitVec 1 := Scalar.cmpi .ne v831 c0_i32_431
  v832

def k0_mult8 (i : grid0.Coords) : BitVec 32 :=
  let c4736_i32 : BitVec 32 := 4736#32
  let arg0 : BitVec 32 := BitVec.ofNat 32 (i 0).val
  let c256_i32_424 : BitVec 32 := 256#32
  let v810 : BitVec 32 := Scalar.muli arg0 c256_i32_424
  let v811 : BitVec 32 := Scalar.addi c4736_i32 v810
  let c256_i32_896 : BitVec 32 := 256#32
  let v1663 : BitVec 32 := Scalar.addi v811 c256_i32_896
  v1663
def k0_off5 (i : grid0.Coords) : Fin 2 → Nat :=
  let c0_897 : Index := 0#32
  let c4736_i32 : BitVec 32 := 4736#32
  let arg0 : BitVec 32 := BitVec.ofNat 32 (i 0).val
  let c256_i32_424 : BitVec 32 := 256#32
  let v810 : BitVec 32 := Scalar.muli arg0 c256_i32_424
  let v811 : BitVec 32 := Scalar.addi c4736_i32 v810
  let c256_i32_896 : BitVec 32 := 256#32
  let v1663 : BitVec 32 := Scalar.addi v811 c256_i32_896
  let v1664 : BitVec 32 := v1663
  let v1665 : Index := Scalar.indexCast v1664
  ![0, v1665.toNat]
def k0_mult9 (i : grid0.Coords) : BitVec 32 :=
  let c4736_i32 : BitVec 32 := 4736#32
  let arg0 : BitVec 32 := BitVec.ofNat 32 (i 0).val
  let c256_i32_424 : BitVec 32 := 256#32
  let v810 : BitVec 32 := Scalar.muli arg0 c256_i32_424
  let v811 : BitVec 32 := Scalar.addi c4736_i32 v810
  let c256_i32_895 : BitVec 32 := 256#32
  let v1662 : BitVec 32 := Scalar.addi v811 c256_i32_895
  v1662
def k0_mult10 (i : grid0.Coords) : BitVec 32 :=
  let c9600_i32 : BitVec 32 := 9600#32
  let arg0 : BitVec 32 := BitVec.ofNat 32 (i 0).val
  let c256_i32_656 : BitVec 32 := 256#32
  let v1230 : BitVec 32 := Scalar.muli arg0 c256_i32_656
  let v1231 : BitVec 32 := Scalar.addi c9600_i32 v1230
  v1231
def k0_cond4 (i : grid0.Coords) : BitVec 1 :=
  let arg0 : BitVec 32 := BitVec.ofNat 32 (i 0).val
  let c18_i32_658 : BitVec 32 := 18#32
  let v1236 : BitVec 1 := Scalar.cmpi .slt arg0 c18_i32_658
  let v1237 : BitVec 32 := Scalar.extui v1236
  let c0_i32_659 : BitVec 32 := 0#32
  let v1238 : BitVec 1 := Scalar.cmpi .ne v1237 c0_i32_659
  v1238

def k0_mult11 (i : grid0.Coords) : BitVec 32 :=
  let c9600_i32 : BitVec 32 := 9600#32
  let arg0 : BitVec 32 := BitVec.ofNat 32 (i 0).val
  let c256_i32_656 : BitVec 32 := 256#32
  let v1230 : BitVec 32 := Scalar.muli arg0 c256_i32_656
  let v1231 : BitVec 32 := Scalar.addi c9600_i32 v1230
  let c128_i32_895 : BitVec 32 := 128#32
  let v1662 : BitVec 32 := Scalar.addi v1231 c128_i32_895
  v1662
def k0_off6 (i : grid0.Coords) : Fin 2 → Nat :=
  let c0_896 : Index := 0#32
  let c9600_i32 : BitVec 32 := 9600#32
  let arg0 : BitVec 32 := BitVec.ofNat 32 (i 0).val
  let c256_i32_656 : BitVec 32 := 256#32
  let v1230 : BitVec 32 := Scalar.muli arg0 c256_i32_656
  let v1231 : BitVec 32 := Scalar.addi c9600_i32 v1230
  let c128_i32_895 : BitVec 32 := 128#32
  let v1662 : BitVec 32 := Scalar.addi v1231 c128_i32_895
  let v1664 : BitVec 32 := v1662
  let v1665 : Index := Scalar.indexCast v1664
  ![0, v1665.toNat]
def k0_cond5 (i : grid0.Coords) : BitVec 1 :=
  let arg0 : BitVec 32 := BitVec.ofNat 32 (i 0).val
  let c18_i32_660 : BitVec 32 := 18#32
  let v1239 : BitVec 1 := Scalar.cmpi .eq arg0 c18_i32_660
  let v1240 : BitVec 32 := Scalar.extui v1239
  let c0_i32_661 : BitVec 32 := 0#32
  let v1241 : BitVec 1 := Scalar.cmpi .ne v1240 c0_i32_661
  v1241

def k0_mult12 (i : grid0.Coords) : BitVec 32 :=
  let c9600_i32 : BitVec 32 := 9600#32
  let arg0 : BitVec 32 := BitVec.ofNat 32 (i 0).val
  let c256_i32_656 : BitVec 32 := 256#32
  let v1230 : BitVec 32 := Scalar.muli arg0 c256_i32_656
  let v1231 : BitVec 32 := Scalar.addi c9600_i32 v1230
  let c128_i32_896 : BitVec 32 := 128#32
  let v1663 : BitVec 32 := Scalar.addi v1231 c128_i32_896
  v1663
def k0_off7 (i : grid0.Coords) : Fin 2 → Nat :=
  let c0_897 : Index := 0#32
  let c9600_i32 : BitVec 32 := 9600#32
  let arg0 : BitVec 32 := BitVec.ofNat 32 (i 0).val
  let c256_i32_656 : BitVec 32 := 256#32
  let v1230 : BitVec 32 := Scalar.muli arg0 c256_i32_656
  let v1231 : BitVec 32 := Scalar.addi c9600_i32 v1230
  let c128_i32_896 : BitVec 32 := 128#32
  let v1663 : BitVec 32 := Scalar.addi v1231 c128_i32_896
  let v1664 : BitVec 32 := v1663
  let v1665 : Index := Scalar.indexCast v1664
  ![0, v1665.toNat]
def k0_mult13 (i : grid0.Coords) : BitVec 32 :=
  let c9600_i32 : BitVec 32 := 9600#32
  let arg0 : BitVec 32 := BitVec.ofNat 32 (i 0).val
  let c256_i32_656 : BitVec 32 := 256#32
  let v1230 : BitVec 32 := Scalar.muli arg0 c256_i32_656
  let v1231 : BitVec 32 := Scalar.addi c9600_i32 v1230
  let c128_i32_895 : BitVec 32 := 128#32
  let v1662 : BitVec 32 := Scalar.addi v1231 c128_i32_895
  v1662
def k0_mult14 (i : grid0.Coords) : BitVec 32 :=
  let c14336_i32 : BitVec 32 := 14336#32
  let arg0 : BitVec 32 := BitVec.ofNat 32 (i 0).val
  let c256_i32_886 : BitVec 32 := 256#32
  let v1639 : BitVec 32 := Scalar.muli arg0 c256_i32_886
  let v1640 : BitVec 32 := Scalar.addi c14336_i32 v1639
  v1640
def k0_mult15 (i : grid0.Coords) : BitVec 32 :=
  let c14336_i32 : BitVec 32 := 14336#32
  let arg0 : BitVec 32 := BitVec.ofNat 32 (i 0).val
  let c256_i32_886 : BitVec 32 := 256#32
  let v1639 : BitVec 32 := Scalar.muli arg0 c256_i32_886
  let v1640 : BitVec 32 := Scalar.addi c14336_i32 v1639
  v1640
def k0_mult16 (i : grid0.Coords) : BitVec 32 :=
  let c14336_i32 : BitVec 32 := 14336#32
  let arg0 : BitVec 32 := BitVec.ofNat 32 (i 0).val
  let c256_i32_886 : BitVec 32 := 256#32
  let v1639 : BitVec 32 := Scalar.muli arg0 c256_i32_886
  let v1640 : BitVec 32 := Scalar.addi c14336_i32 v1639
  let c128_i32_891 : BitVec 32 := 128#32
  let v1653 : BitVec 32 := Scalar.addi v1640 c128_i32_891
  v1653
def k0_cond6 (i : grid0.Coords) : BitVec 1 :=
  let arg0 : BitVec 32 := BitVec.ofNat 32 (i 0).val
  let c18_i32_893 : BitVec 32 := 18#32
  let v1659 : BitVec 1 := Scalar.cmpi .slt arg0 c18_i32_893
  let v1660 : BitVec 32 := Scalar.extui v1659
  let c0_i32_894 : BitVec 32 := 0#32
  let v1661 : BitVec 1 := Scalar.cmpi .ne v1660 c0_i32_894
  v1661

def k0_mult17 (i : grid0.Coords) : BitVec 32 :=
  let c14336_i32 : BitVec 32 := 14336#32
  let arg0 : BitVec 32 := BitVec.ofNat 32 (i 0).val
  let c256_i32_886 : BitVec 32 := 256#32
  let v1639 : BitVec 32 := Scalar.muli arg0 c256_i32_886
  let v1640 : BitVec 32 := Scalar.addi c14336_i32 v1639
  let c256_i32_896 : BitVec 32 := 256#32
  let v1663 : BitVec 32 := Scalar.addi v1640 c256_i32_896
  v1663
def k0_off8 (i : grid0.Coords) : Fin 2 → Nat :=
  let c0_897 : Index := 0#32
  let c14336_i32 : BitVec 32 := 14336#32
  let arg0 : BitVec 32 := BitVec.ofNat 32 (i 0).val
  let c256_i32_886 : BitVec 32 := 256#32
  let v1639 : BitVec 32 := Scalar.muli arg0 c256_i32_886
  let v1640 : BitVec 32 := Scalar.addi c14336_i32 v1639
  let c256_i32_896 : BitVec 32 := 256#32
  let v1663 : BitVec 32 := Scalar.addi v1640 c256_i32_896
  let v1664 : BitVec 32 := v1663
  let v1665 : Index := Scalar.indexCast v1664
  ![0, v1665.toNat]
def k0_mult18 (i : grid0.Coords) : BitVec 32 :=
  let c14336_i32 : BitVec 32 := 14336#32
  let arg0 : BitVec 32 := BitVec.ofNat 32 (i 0).val
  let c256_i32_886 : BitVec 32 := 256#32
  let v1639 : BitVec 32 := Scalar.muli arg0 c256_i32_886
  let v1640 : BitVec 32 := Scalar.addi c14336_i32 v1639
  let c256_i32_895 : BitVec 32 := 256#32
  let v1662 : BitVec 32 := Scalar.addi v1640 c256_i32_895
  v1662
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x19200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S2x128x7168 : Shape := ⟨3, ![2, 128, 7168]⟩
abbrev S7168x4800 : Shape := ⟨2, ![7168, 4800]⟩
abbrev S_ : Shape := ⟨0, ![]⟩
abbrev S4 : Shape := ⟨1, ![4]⟩
abbrev S4x1x1 : Shape := ⟨3, ![4, 1, 1]⟩
abbrev S1x7168x4800 : Shape := ⟨3, ![1, 7168, 4800]⟩
abbrev S4x7168x4800 : Shape := ⟨3, ![4, 7168, 4800]⟩
abbrev S2x128x4x4800 : Shape := ⟨4, ![2, 128, 4, 4800]⟩
abbrev S2x128x19200 : Shape := ⟨3, ![2, 128, 19200]⟩
abbrev S256x19200 : Shape := ⟨2, ![256, 19200]⟩

abbrev nBuf : Space → Nat
  | .hbm => 26
  | .vmem => 0
  | .smem => 0
  | _ => 0

abbrev bufTy : (tb : Table) → Fin (tcTables nBuf tb) → BufTy
  | .hbm, ⟨0, _⟩ => ⟨S2x128x7168, .bf16⟩
  | .hbm, ⟨1, _⟩ => ⟨S7168x4800, .i8⟩
  | .hbm, ⟨2, _⟩ => ⟨S_, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S4x1x1, .i32⟩
  | .hbm, ⟨8, _⟩ => ⟨S7168x4800, .i32⟩
  | .hbm, ⟨9, _⟩ => ⟨S1x7168x4800, .i32⟩
  | .hbm, ⟨10, _⟩ => ⟨S4x7168x4800, .i32⟩
  | .hbm, ⟨11, _⟩ => ⟨S4x7168x4800, .i32⟩
  | .hbm, ⟨12, _⟩ => ⟨S4x7168x4800, .i32⟩
  | .hbm, ⟨13, _⟩ => ⟨S_, .i32⟩
  | .hbm, ⟨14, _⟩ => ⟨S4x7168x4800, .i32⟩
  | .hbm, ⟨15, _⟩ => ⟨S4x7168x4800, .i32⟩
  | .hbm, ⟨16, _⟩ => ⟨S4x7168x4800, .bf16⟩
  | .hbm, ⟨17, _⟩ => ⟨S_, .bf16⟩
  | .hbm, ⟨18, _⟩ => ⟨S4x7168x4800, .bf16⟩
  | .hbm, ⟨19, _⟩ => ⟨S4x7168x4800, .bf16⟩
  | .hbm, ⟨20, _⟩ => ⟨S2x128x4x4800, .f32⟩
  | .hbm, ⟨21, _⟩ => ⟨S2x128x19200, .f32⟩
  | .hbm, ⟨22, _⟩ => ⟨S2x128x19200, .f32⟩
  | .hbm, ⟨23, _⟩ => ⟨S2x128x19200, .f32⟩
  | .hbm, ⟨24, _⟩ => ⟨S2x128x19200, .bf16⟩
  | .hbm, ⟨25, _⟩ => ⟨S256x19200, .bf16⟩
  | _, _ => ⟨S2x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Kernel.Offsets.lean ====
module

public import proofs.«01_k».proof.Kernel
public import Idealize.ShloMosaic.Lib.Tactic

@[expose] public section

set_option maxRecDepth 16384

noncomputable section

namespace Cert.Kernel.Hand

open Cert.Kernel
open Idealize.ShloMosaic Idealize.ShloMosaic.Tactic

/-- A column start as the kernel computes it in 32-bit words, `c + 256 · t`, does not wrap. -/
theorem start_eq (c t : Nat) (hc : c ≤ 20000) (ht : t < 19) :
    (BitVec.ofNat 32 c + BitVec.ofNat 32 t * 256#32).toNat = c + 256 * t := by
  simp only [BitVec.toNat_add, BitVec.toNat_mul, BitVec.toNat_ofNat]; omega
/-- The same of a start a further constant past it. -/
theorem start_add_eq (c d t : Nat) (hc : c + d ≤ 20000) (ht : t < 19) :
    (BitVec.ofNat 32 c + BitVec.ofNat 32 t * 256#32 + BitVec.ofNat 32 d).toNat = c + d + 256 * t := by
  simp only [BitVec.toNat_add, BitVec.toNat_mul, BitVec.toNat_ofNat]; omega

/-- The grid point is below 19. -/
theorem point_lt (i : grid0.Coords) : (i 0).val < 19 := (i 0).isLt

/-! The columns each of the body's accesses to the output starts at, at point `t = i 0`. -/

theorem off1_0 (i : grid0.Coords) : k0_off1 i 0#32 = ![0, 0 + 256 * (i 0).val] :=
  congrArg (fun x => ![0, x]) (start_eq 0 _ (by omega) (point_lt i))
theorem off1_1 (i : grid0.Coords) : k0_off1 i 4736#32 = ![0, 4736 + 256 * (i 0).val] :=
  congrArg (fun x => ![0, x]) (start_eq 4736 _ (by omega) (point_lt i))
theorem off1_2 (i : grid0.Coords) : k0_off1 i 9600#32 = ![0, 9600 + 256 * (i 0).val] :=
  congrArg (fun x => ![0, x]) (start_eq 9600 _ (by omega) (point_lt i))
theorem off1_3 (i : grid0.Coords) : k0_off1 i 14336#32 = ![0, 14336 + 256 * (i 0).val] :=
  congrArg (fun x => ![0, x]) (start_eq 14336 _ (by omega) (point_lt i))
theorem off2 (i : grid0.Coords) : k0_off2 i = ![0, 128 + 256 * (i 0).val] :=
  congrArg (fun x => ![0, x]) (start_add_eq 0 128 _ (by omega) (point_lt i))
theorem off3 (i : grid0.Coords) : k0_off3 i = ![0, 128 + 256 * (i 0).val] :=
  congrArg (fun x => ![0, x]) (start_add_eq 0 128 _ (by omega) (point_lt i))
theorem off4_1 (i : grid0.Coords) : k0_off4 i 4736#32 = ![0, 4864 + 256 * (i 0).val] :=
  congrArg (fun x => ![0, x]) (start_add_eq 4736 128 _ (by omega) (point_lt i))
theorem off4_3 (i : grid0.Coords) : k0_off4 i 14336#32 = ![0, 14464 + 256 * (i 0).val] :=
  congrArg (fun x => ![0, x]) (start_add_eq 14336 128 _ (by omega) (point_lt i))
theorem off5 (i : grid0.Coords) : k0_off5 i = ![0, 4992 + 256 * (i 0).val] :=
  congrArg (fun x => ![0, x]) (start_add_eq 4736 256 _ (by omega) (point_lt i))
theorem off6 (i : grid0.Coords) : k0_off6 i = ![0, 9728 + 256 * (i 0).val] :=
  congrArg (fun x => ![0, x]) (start_add_eq 9600 128 _ (by omega) (point_lt i))
theorem off7 (i : grid0.Coords) : k0_off7 i = ![0, 9728 + 256 * (i 0).val] :=
  congrArg (fun x => ![0, x]) (start_add_eq 9600 128 _ (by omega) (point_lt i))
theorem off8 (i : grid0.Coords) : k0_off8 i = ![0, 14592 + 256 * (i 0).val] :=
  congrArg (fun x => ![0, x]) (start_add_eq 14336 256 _ (by omega) (point_lt i))

instance (i : grid0.Coords) : ClosedOff (k0_off1 i 0#32) := ⟨_, off1_0 i⟩
instance (i : grid0.Coords) : ClosedOff (k0_off1 i 4736#32) := ⟨_, off1_1 i⟩
instance (i : grid0.Coords) : ClosedOff (k0_off1 i 9600#32) := ⟨_, off1_2 i⟩
instance (i : grid0.Coords) : ClosedOff (k0_off1 i 14336#32) := ⟨_, off1_3 i⟩
instance (i : grid0.Coords) : ClosedOff (k0_off2 i) := ⟨_, off2 i⟩
instance (i : grid0.Coords) : ClosedOff (k0_off3 i) := ⟨_, off3 i⟩
instance (i : grid0.Coords) : ClosedOff (k0_off4 i 4736#32) := ⟨_, off4_1 i⟩
instance (i : grid0.Coords) : ClosedOff (k0_off4 i 14336#32) := ⟨_, off4_3 i⟩
instance (i : grid0.Coords) : ClosedOff (k0_off5 i) := ⟨_, off5 i⟩
instance (i : grid0.Coords) : ClosedOff (k0_off6 i) := ⟨_, off6 i⟩
instance (i : grid0.Coords) : ClosedOff (k0_off7 i) := ⟨_, off7 i⟩
instance (i : grid0.Coords) : ClosedOff (k0_off8 i) := ⟨_, off8 i⟩

/-! The branch conditions: the second, fifth and the rest compare the point with 18. -/

theorem cond1 (i : grid0.Coords) : k0_cond1 i = 1#1 ↔ (i 0).val < 18 := by
  have : ∀ t : Fin 19, (Scalar.cmpi .ne (Scalar.extui (Scalar.cmpi .slt (BitVec.ofNat 32 t.val) 18#32) : BitVec 32) 0#32 = 1#1) ↔ t.val < 18 := by decide
  exact this (i 0)
theorem cond2 (i : grid0.Coords) : k0_cond2 i = 1#1 ↔ (i 0).val = 18 := by
  have : ∀ t : Fin 19, (Scalar.cmpi .ne (Scalar.extui (Scalar.cmpi .eq (BitVec.ofNat 32 t.val) 18#32) : BitVec 32) 0#32 = 1#1) ↔ t.val = 18 := by decide
  exact this (i 0)
theorem cond3 (i : grid0.Coords) : k0_cond3 i = 1#1 ↔ (i 0).val < 18 := cond1 i
theorem cond4 (i : grid0.Coords) : k0_cond4 i = 1#1 ↔ (i 0).val < 18 := cond1 i
theorem cond5 (i : grid0.Coords) : k0_cond5 i = 1#1 ↔ (i 0).val = 18 := cond2 i
theorem cond6 (i : grid0.Coords) : k0_cond6 i = 1#1 ↔ (i 0).val < 18 := cond1 i

end Cert.Kernel.Hand

end
-- ==== Proof.Kernel.Body.lean ====
module

public import proofs.«01_k».proof.Proof.Gen.Kernel.Frame
public import proofs.«01_k».proof.Proof.Gen.Kernel.Skeleton
public import proofs.«01_k».proof.Proof.Kernel.Offsets
public import Idealize.ShloMosaic.Lib.Pipeline.Frame
public import Idealize.ShloMosaic.Lib.Tactic

@[expose] public section

set_option maxRecDepth 16384

/-! # The kernel body's run

Before the last grid point the body takes its full-width branches, at the last point the others. Each way it runs to its
return from the four staging buffers held whole, changing only the output's. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- A memref's buffer contents on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body at a point before the last (`h1` … `h6` decide its branches): what it leaves in the output's buffer, with the
    proof that from the four buffers held whole it runs to its return, the inputs as they were. -/
def runFull (c : Dev nD) (i : grid0.Coords)
    (M1 : Memref sig .tc .smem S1 .f32) (w1 : M1.IsWhole) (M2 : Memref sig .tc .vmem S256x7168 .bf16) (w2 : M2.IsWhole)
    (M3 : Memref sig .tc .vmem S7168x256 .i8) (w3 : M3.IsWhole) (M4 : Memref sig .tc .vmem S256x19200 .bf16) (w4 : M4.IsWhole)
    (h1 : k0_cond1 i = 1#1) (h2 : ¬ k0_cond2 i = 1#1) (h3 : k0_cond3 i = 1#1) (h4 : k0_cond4 i = 1#1) (h5 : ¬ k0_cond5 i = 1#1) (h6 : k0_cond6 i = 1#1)
    (f1 : Bf (F := F) c M1) (f2 : Bf (F := F) c M2) (f3 : Bf (F := F) c M3) (f4 : Bf (F := F) c M4) :
    { W : Bf (F := F) c M4 // ∀ (Q : PUnit → sProp 𝕄),
        iprop(pt c M1 f1 ∗ pt c M2 f2 ∗ pt c M3 f3 ∗ pt c M4 f4
          ∗ (iprop(pt c M1 f1 ∗ pt c M2 f2 ∗ pt c M3 f3 ∗ pt c M4 W) -∗ Q ⟨⟩))
        ⊢ wp frame (wpE (defs₀ (F := F)) Variants.none c none) Set.univ (cc0__body i M1 w1 M2 w2 M3 w3 M4 w4) Q } := by
  refine ⟨?_, fun Q => ?run⟩
  case run =>
    iintro ⟨H1, H2, H3, H4, Hk⟩
    sl_exec_parts! (disch := assumption)
    sl_step
    iapply Hk
    isplitl [H1]; · iexact H1
    isplitl [H2]; · iexact H2
    isplitl [H3]; · iexact H3
    iexact H4

/-- The body at the last point (`h1` … `h6` decide its branches): what it leaves in the output's buffer, with the
    proof that from the four buffers held whole it runs to its return, the inputs as they were. -/
def runLast (c : Dev nD) (i : grid0.Coords)
    (M1 : Memref sig .tc .smem S1 .f32) (w1 : M1.IsWhole) (M2 : Memref sig .tc .vmem S256x7168 .bf16) (w2 : M2.IsWhole)
    (M3 : Memref sig .tc .vmem S7168x256 .i8) (w3 : M3.IsWhole) (M4 : Memref sig .tc .vmem S256x19200 .bf16) (w4 : M4.IsWhole)
    (h1 : ¬ k0_cond1 i = 1#1) (h2 : k0_cond2 i = 1#1) (h3 : ¬ k0_cond3 i = 1#1) (h4 : ¬ k0_cond4 i = 1#1) (h5 : k0_cond5 i = 1#1) (h6 : ¬ k0_cond6 i = 1#1)
    (f1 : Bf (F := F) c M1) (f2 : Bf (F := F) c M2) (f3 : Bf (F := F) c M3) (f4 : Bf (F := F) c M4) :
    { W : Bf (F := F) c M4 // ∀ (Q : PUnit → sProp 𝕄),
        iprop(pt c M1 f1 ∗ pt c M2 f2 ∗ pt c M3 f3 ∗ pt c M4 f4
          ∗ (iprop(pt c M1 f1 ∗ pt c M2 f2 ∗ pt c M3 f3 ∗ pt c M4 W) -∗ Q ⟨⟩))
        ⊢ wp frame (wpE (defs₀ (F := F)) Variants.none c none) Set.univ (cc0__body i M1 w1 M2 w2 M3 w3 M4 w4) Q } := by
  refine ⟨?_, fun Q => ?run⟩
  case run =>
    iintro ⟨H1, H2, H3, H4, Hk⟩
    sl_exec_parts! (disch := assumption)
    sl_step
    iapply Hk
    isplitl [H1]; · iexact H1
    isplitl [H2]; · iexact H2
    isplitl [H3]; · iexact H3
    iexact H4

end Cert.Kernel.Hand

end
-- ==== Proof.Kernel.Run.lean ====
module

public import proofs.«01_k».proof.Proof.Kernel.Body
public import Idealize.ShloMosaic.Lib.Pipeline.FrameBody

@[expose] public section

set_option maxRecDepth 16384

/-! # The launch's run

What a grid point's buffers hold is stated as a relation, because a block of packed weights at the array's end is known only
inside the array. From that the whole launch terminates, and the arguments end as they began. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The staging memrefs of the four windows at point `t` are whole. -/
theorem whole0 (t : Fin cfg0.N) : (st0_0 t).IsWhole := hstage0_0 ((cfg0.slots t 0).cast nbuf0_0)
theorem whole1 (t : Fin cfg0.N) : (st0_1 t).IsWhole := hstage0_1 ((cfg0.slots t 1).cast nbuf0_1)
theorem whole2 (t : Fin cfg0.N) : (st0_2 t).IsWhole := hstage0_2 ((cfg0.slots t 2).cast nbuf0_2)
theorem whole3 (t : Fin cfg0.N) : (st0_3 t).IsWhole := hstage0_3 ((cfg0.slots t 3).cast nbuf0_3)

/-- What the body at point `t` leaves in the output's staging buffer, from the four buffers' contents. -/
def outAt (c : Dev nD) (t : Fin cfg0.N) (f1 : Bf (F := F) c (st0_0 t)) (f2 : Bf (F := F) c (st0_1 t)) (f3 : Bf (F := F) c (st0_2 t))
    (f4 : Bf (F := F) c (st0_3 t)) : Bf (F := F) c (st0_3 t) :=
  if h : (grid0.coords t 0).val < 18 then
    (runFull c (grid0.coords t) (st0_0 t) (whole0 t) (st0_1 t) (whole1 t) (st0_2 t) (whole2 t) (st0_3 t) (whole3 t)
      ((cond1 _).2 h) (fun e => absurd ((cond2 _).1 e) (by omega)) ((cond3 _).2 h) ((cond4 _).2 h) (fun e => absurd ((cond5 _).1 e) (by omega)) ((cond6 _).2 h)
      f1 f2 f3 f4).1
  else
    (runLast c (grid0.coords t) (st0_0 t) (whole0 t) (st0_1 t) (whole1 t) (st0_2 t) (whole2 t) (st0_3 t) (whole3 t)
      (fun e => h ((cond1 _).1 e)) ((cond2 _).2 (by have := point_lt (grid0.coords t); omega)) (fun e => h ((cond3 _).1 e)) (fun e => h ((cond4 _).1 e))
      ((cond5 _).2 (by have := point_lt (grid0.coords t); omega)) (fun e => h ((cond6 _).1 e))
      f1 f2 f3 f4).1

/-- The body at any point: from the four buffers held whole it runs to its return, the inputs as they were, the output at `outAt`. -/
theorem run_body (c : Dev nD) (t : Fin cfg0.N) (f1 : Bf (F := F) c (st0_0 t)) (f2 : Bf (F := F) c (st0_1 t)) (f3 : Bf (F := F) c (st0_2 t))
    (f4 : Bf (F := F) c (st0_3 t)) (Q : PUnit → sProp 𝕄) :
    iprop(pt c (st0_0 t) f1 ∗ pt c (st0_1 t) f2 ∗ pt c (st0_2 t) f3 ∗ pt c (st0_3 t) f4
        ∗ (iprop(pt c (st0_0 t) f1 ∗ pt c (st0_1 t) f2 ∗ pt c (st0_2 t) f3 ∗ pt c (st0_3 t) (outAt c t f1 f2 f3 f4)) -∗ Q ⟨⟩))
      ⊢ wp frame (wpE (defs₀ (F := F)) Variants.none c none) Set.univ (bodyAt0 t) Q := by
  unfold outAt bodyAt0
  split
  · exact (runFull c (grid0.coords t) (st0_0 t) (whole0 t) (st0_1 t) (whole1 t) (st0_2 t) (whole2 t) (st0_3 t) (whole3 t) _ _ _ _ _ _ f1 f2 f3 f4).2 Q
  · exact (runLast c (grid0.coords t) (st0_0 t) (whole0 t) (st0_1 t) (whole1 t) (st0_2 t) (whole2 t) (st0_3 t) (whole3 t) _ _ _ _ _ _ f1 f2 f3 f4).2 Q

/-- What the packed weights' staging buffer may hold at point `t`: the block of the array where it lies inside, anything beyond. -/
def WBlock (c : Dev nD) (t : Fin cfg0.N) (Y : (cfg0.win 2).block.Idx → Elt F (cfg0.win 2).elt) : Prop :=
  ∃ d, Y = (cfg0.win 2).fill (cfg0.grid.coords t) d (iblk m c 2 t)

/-- How a point changes the output's staging buffer: from contents reading `Y` to contents reading `X`, the body run from the
    scale, the activations and a block of packed weights. -/
def OutStep (c : Dev nD) (t : Fin cfg0.N) (Y X : (cfg0.win 3).block.Idx → Elt F (cfg0.win 3).elt) : Prop :=
  ∃ (f1 : Bf (F := F) c (st0_0 t)) (f2 : Bf (F := F) c (st0_1 t)) (f3 : Bf (F := F) c (st0_2 t)) (f4 : Bf (F := F) c (st0_3 t)),
    (st0_0 t).view.read (Elt F) f1 = iblk m c 0 t ∧ (st0_1 t).view.read (Elt F) f2 = iblk m c 1 t
      ∧ WBlock m c t ((st0_2 t).view.read (Elt F) f3) ∧ (st0_3 t).view.read (Elt F) f4 = Y
      ∧ (st0_3 t).view.read (Elt F) (outAt c t f1 f2 f3 f4) = X

/-- The proof data on core `c`: the arrays as the region finds them; an input's buffer left as found, the output's changed by
    `OutStep`; the class invariant; full shares; nothing owed. -/
def rdat (c : Dev nD) : RDat τ (Elt F) Unit ℕ (UR sig nD τ) ℕ cfg0 c where
  A w := V m c (Pipeline.arrRef spec0 w)
  after
    | 0 => fun _ Y X => X = Y
    | 1 => fun _ Y X => X = Y
    | 2 => fun _ Y X => X = Y
    | 3 => OutStep m c
    | ⟨_ + 4, h⟩ => absurd h (Nat.not_lt.2 (Nat.le_add_left _ _))
  Φ _ := Pipeline.ΦA spec0 c
  q _ := fullShare
  owed _ := 0

theorem rdat_share (c : Dev nD) (w : Fin cfg0.W) : (rdat (F := F) m c).share w = fullShare := by
  unfold RDat.share; split <;> rfl

theorem rdat_A (c : Dev nD) (w : Fin cfg0.W) : (rdat (F := F) m c).A w = V m c (Pipeline.arrRef spec0 w) := rfl

/-- What the body finds in the scale's, the activations' and the weights' buffers. -/
theorem finds0 (c : Dev nD) (t : Fin cfg0.N) (Y) (h : (rdat (F := F) m c).Finds 0 t Y) : Y = iblk m c 0 t := by
  obtain ⟨d, rfl⟩ := (rdat (F := F) m c).finds_in_eq_fetched 0 rfl (fun _ _ _ => rfl) (fun _ _ _ h => h) t Y h
  unfold RDat.fetched RDat.blockOf iblk; rfl
theorem finds1 (c : Dev nD) (t : Fin cfg0.N) (Y) (h : (rdat (F := F) m c).Finds 1 t Y) : Y = iblk m c 1 t := by
  obtain ⟨d, rfl⟩ := (rdat (F := F) m c).finds_in_eq_fetched 1 rfl (fun _ _ _ => rfl) (fun _ _ _ h => h) t Y h
  unfold RDat.fetched RDat.blockOf iblk; rfl
theorem finds2 (c : Dev nD) (t : Fin cfg0.N) (Y) (h : (rdat (F := F) m c).Finds 2 t Y) : WBlock m c t Y := by
  obtain ⟨d, rfl⟩ := ((rdat (F := F) m c).finds_of_fetch (fetch0_2 t) Y).mp h
  exact ⟨d, rfl⟩

/-- What the body is called with at point `t`, and what it returns. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3))
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜X = Y 0⌝ ∗ owns (c : Thread nD τ) (st0_0 t) fullShare X) ∗ (∃ X, ⌜X = Y 1⌝ ∗ owns (c : Thread nD τ) (st0_1 t) fullShare X)
    ∗ (∃ X, ⌜X = Y 2⌝ ∗ owns (c : Thread nD τ) (st0_2 t) fullShare X) ∗ (∃ X, ⌜OutStep m c t (Y 3) X⌝ ∗ owns (c : Thread nD τ) (st0_3 t) fullShare X))

theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  have h0 := finds0 m c t _ (hY 0)
  have h1 := finds1 m c t _ (hY 1)
  have h2 := finds2 m c t _ (hY 2)
  unfold bodyPre bodyPost
  rw [show (rdat m c).Φ t.succ = (rdat m c).Φ t.castSucc from rfl,
    show (rdat m c).owesAt () t.succ = (rdat m c).owesAt () t.castSucc from rfl]
  unfold owns
  rw [(whole0 t).set_eq_univ, (whole1 t).set_eq_univ, (whole2 t).set_eq_univ, (whole3 t).set_eq_univ]
  iintro ⟨HΦ, HO, ⟨%f1, %e1, H1⟩, ⟨%f2, %e2, H2⟩, ⟨%f3, %e3, H3⟩, ⟨%f4, %e4, H4⟩⟩
  iapply (run_body c t f1 f2 f3 f4 _)
  isplitl [H1]; · iexact H1
  isplitl [H2]; · iexact H2
  isplitl [H3]; · iexact H3
  isplitl [H4]; · iexact H4
  iintro ⟨H1, H2, H3, H4⟩
  isplitl [HΦ]; · iexact HΦ
  isplitl [HO]; · iexact HO
  isplitl [H1]
  · iexists (Y 0); isplitr; · ipureintro; rfl
    iexists f1; isplitr; · ipureintro; exact e1
    iexact H1
  isplitl [H2]
  · iexists (Y 1); isplitr; · ipureintro; rfl
    iexists f2; isplitr; · ipureintro; exact e2
    iexact H2
  isplitl [H3]
  · iexists (Y 2); isplitr; · ipureintro; rfl
    iexists f3; isplitr; · ipureintro; exact e3
    iexact H3
  iexists ((st0_3 t).view.read (Elt F) (outAt c t f1 f2 f3 f4)); isplitr
  · ipureintro; exact ⟨f1, f2, f3, f4, e1.trans h0, e2.trans h1, e3 ▸ h2, e4, rfl⟩
  iexists (outAt c t f1 f2 f3 f4); isplitr; · ipureintro; rfl
  iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation of this proof data. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

set_option backward.isDefEq.respectTransparency.types false in
/-- From any memory with zero counters every weakly fair execution of @main terminates, every final state has each windowed array
    at contents the proof data allows, every other unscoped buffer at its launch contents and every counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := body_obligation m) (hshare := rdat_share m) (howed := fun _ _ => rfl) (V := V m) (hmain := hmain m Variants.none)
    (hA := rdat_A m) (hΦ := fun _ _ => rfl) (hQ' := fun _ h => h)

/-- The three arguments end as they began, and every counter at zero: the frame claim's post at any value instance. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 2 rfl).trans (V_main_arg1 m c),
      ((h.1 c).2 main_arg2 (Pipeline.mem_restRefs_of main_arg2 (by decide) (by decide))).trans (V_main_arg2 m c)⟩, h.2⟩) (run_main m ρ)

end Cert.Kernel.Hand

end
-- ==== Proof.KernelIdeal.Offsets.lean ====
module

public import proofs.«01_k».proof.KernelIdeal
public import Idealize.ShloMosaic.Lib.Tactic

@[expose] public section

set_option maxRecDepth 16384

noncomputable section

namespace Cert.KernelIdeal.Hand

open Cert.KernelIdeal
open Idealize.ShloMosaic Idealize.ShloMosaic.Tactic

/-- A column start as the kernel computes it in 32-bit words, `c + 256 · t`, does not wrap. -/
theorem start_eq (c t : Nat) (hc : c ≤ 20000) (ht : t < 19) :
    (BitVec.ofNat 32 c + BitVec.ofNat 32 t * 256#32).toNat = c + 256 * t := by
  simp only [BitVec.toNat_add, BitVec.toNat_mul, BitVec.toNat_ofNat]; omega
/-- The same of a start a further constant past it. -/
theorem start_add_eq (c d t : Nat) (hc : c + d ≤ 20000) (ht : t < 19) :
    (BitVec.ofNat 32 c + BitVec.ofNat 32 t * 256#32 + BitVec.ofNat 32 d).toNat = c + d + 256 * t := by
  simp only [BitVec.toNat_add, BitVec.toNat_mul, BitVec.toNat_ofNat]; omega

/-- The grid point is below 19. -/
theorem point_lt (i : grid0.Coords) : (i 0).val < 19 := (i 0).isLt

/-! The columns each of the body's accesses to the output starts at, at point `t = i 0`. -/

theorem off1_0 (i : grid0.Coords) : k0_off1 i 0#32 = ![0, 0 + 256 * (i 0).val] :=
  congrArg (fun x => ![0, x]) (start_eq 0 _ (by omega) (point_lt i))
theorem off1_1 (i : grid0.Coords) : k0_off1 i 4736#32 = ![0, 4736 + 256 * (i 0).val] :=
  congrArg (fun x => ![0, x]) (start_eq 4736 _ (by omega) (point_lt i))
theorem off1_2 (i : grid0.Coords) : k0_off1 i 9600#32 = ![0, 9600 + 256 * (i 0).val] :=
  congrArg (fun x => ![0, x]) (start_eq 9600 _ (by omega) (point_lt i))
theorem off1_3 (i : grid0.Coords) : k0_off1 i 14336#32 = ![0, 14336 + 256 * (i 0).val] :=
  congrArg (fun x => ![0, x]) (start_eq 14336 _ (by omega) (point_lt i))
theorem off2 (i : grid0.Coords) : k0_off2 i = ![0, 128 + 256 * (i 0).val] :=
  congrArg (fun x => ![0, x]) (start_add_eq 0 128 _ (by omega) (point_lt i))
theorem off3 (i : grid0.Coords) : k0_off3 i = ![0, 128 + 256 * (i 0).val] :=
  congrArg (fun x => ![0, x]) (start_add_eq 0 128 _ (by omega) (point_lt i))
theorem off4_1 (i : grid0.Coords) : k0_off4 i 4736#32 = ![0, 4864 + 256 * (i 0).val] :=
  congrArg (fun x => ![0, x]) (start_add_eq 4736 128 _ (by omega) (point_lt i))
theorem off4_3 (i : grid0.Coords) : k0_off4 i 14336#32 = ![0, 14464 + 256 * (i 0).val] :=
  congrArg (fun x => ![0, x]) (start_add_eq 14336 128 _ (by omega) (point_lt i))
theorem off5 (i : grid0.Coords) : k0_off5 i = ![0, 4992 + 256 * (i 0).val] :=
  congrArg (fun x => ![0, x]) (start_add_eq 4736 256 _ (by omega) (point_lt i))
theorem off6 (i : grid0.Coords) : k0_off6 i = ![0, 9728 + 256 * (i 0).val] :=
  congrArg (fun x => ![0, x]) (start_add_eq 9600 128 _ (by omega) (point_lt i))
theorem off7 (i : grid0.Coords) : k0_off7 i = ![0, 9728 + 256 * (i 0).val] :=
  congrArg (fun x => ![0, x]) (start_add_eq 9600 128 _ (by omega) (point_lt i))
theorem off8 (i : grid0.Coords) : k0_off8 i = ![0, 14592 + 256 * (i 0).val] :=
  congrArg (fun x => ![0, x]) (start_add_eq 14336 256 _ (by omega) (point_lt i))

instance (i : grid0.Coords) : ClosedOff (k0_off1 i 0#32) := ⟨_, off1_0 i⟩
instance (i : grid0.Coords) : ClosedOff (k0_off1 i 4736#32) := ⟨_, off1_1 i⟩
instance (i : grid0.Coords) : ClosedOff (k0_off1 i 9600#32) := ⟨_, off1_2 i⟩
instance (i : grid0.Coords) : ClosedOff (k0_off1 i 14336#32) := ⟨_, off1_3 i⟩
instance (i : grid0.Coords) : ClosedOff (k0_off2 i) := ⟨_, off2 i⟩
instance (i : grid0.Coords) : ClosedOff (k0_off3 i) := ⟨_, off3 i⟩
instance (i : grid0.Coords) : ClosedOff (k0_off4 i 4736#32) := ⟨_, off4_1 i⟩
instance (i : grid0.Coords) : ClosedOff (k0_off4 i 14336#32) := ⟨_, off4_3 i⟩
instance (i : grid0.Coords) : ClosedOff (k0_off5 i) := ⟨_, off5 i⟩
instance (i : grid0.Coords) : ClosedOff (k0_off6 i) := ⟨_, off6 i⟩
instance (i : grid0.Coords) : ClosedOff (k0_off7 i) := ⟨_, off7 i⟩
instance (i : grid0.Coords) : ClosedOff (k0_off8 i) := ⟨_, off8 i⟩

/-! The branch conditions: the second, fifth and the rest compare the point with 18. -/

theorem cond1 (i : grid0.Coords) : k0_cond1 i = 1#1 ↔ (i 0).val < 18 := by
  have : ∀ t : Fin 19, (Scalar.cmpi .ne (Scalar.extui (Scalar.cmpi .slt (BitVec.ofNat 32 t.val) 18#32) : BitVec 32) 0#32 = 1#1) ↔ t.val < 18 := by decide
  exact this (i 0)
theorem cond2 (i : grid0.Coords) : k0_cond2 i = 1#1 ↔ (i 0).val = 18 := by
  have : ∀ t : Fin 19, (Scalar.cmpi .ne (Scalar.extui (Scalar.cmpi .eq (BitVec.ofNat 32 t.val) 18#32) : BitVec 32) 0#32 = 1#1) ↔ t.val = 18 := by decide
  exact this (i 0)
theorem cond3 (i : grid0.Coords) : k0_cond3 i = 1#1 ↔ (i 0).val < 18 := cond1 i
theorem cond4 (i : grid0.Coords) : k0_cond4 i = 1#1 ↔ (i 0).val < 18 := cond1 i
theorem cond5 (i : grid0.Coords) : k0_cond5 i = 1#1 ↔ (i 0).val = 18 := cond2 i
theorem cond6 (i : grid0.Coords) : k0_cond6 i = 1#1 ↔ (i 0).val < 18 := cond1 i

end Cert.KernelIdeal.Hand

end
-- ==== Proof.KernelIdeal.Body.lean ====
module

public import proofs.«01_k».proof.Proof.Gen.KernelIdeal.Frame
public import proofs.«01_k».proof.Proof.Gen.KernelIdeal.Skeleton
public import proofs.«01_k».proof.Proof.KernelIdeal.Offsets
public import Idealize.ShloMosaic.Lib.Pipeline.Frame
public import Idealize.ShloMosaic.Lib.Tactic

@[expose] public section

set_option maxRecDepth 16384

/-! # The kernel body's run

Before the last grid point the body takes its full-width branches, at the last point the others. Each way it runs to its
return from the four staging buffers held whole, changing only the output's. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- A memref's buffer contents on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body at a point before the last (`h1` … `h6` decide its branches): what it leaves in the output's buffer, with the
    proof that from the four buffers held whole it runs to its return, the inputs as they were. -/
def runFull (c : Dev nD) (i : grid0.Coords)
    (M1 : Memref sig .tc .smem S1 .f32) (w1 : M1.IsWhole) (M2 : Memref sig .tc .vmem S256x7168 .bf16) (w2 : M2.IsWhole)
    (M3 : Memref sig .tc .vmem S7168x256 .i8) (w3 : M3.IsWhole) (M4 : Memref sig .tc .vmem S256x19200 .bf16) (w4 : M4.IsWhole)
    (h1 : k0_cond1 i = 1#1) (h2 : ¬ k0_cond2 i = 1#1) (h3 : k0_cond3 i = 1#1) (h4 : k0_cond4 i = 1#1) (h5 : ¬ k0_cond5 i = 1#1) (h6 : k0_cond6 i = 1#1)
    (f1 : Bf (F := F) c M1) (f2 : Bf (F := F) c M2) (f3 : Bf (F := F) c M3) (f4 : Bf (F := F) c M4) :
    { W : Bf (F := F) c M4 // ∀ (Q : PUnit → sProp 𝕄),
        iprop(pt c M1 f1 ∗ pt c M2 f2 ∗ pt c M3 f3 ∗ pt c M4 f4
          ∗ (iprop(pt c M1 f1 ∗ pt c M2 f2 ∗ pt c M3 f3 ∗ pt c M4 W) -∗ Q ⟨⟩))
        ⊢ wp frame (wpE (defs₀ (F := F)) Variants.none c none) Set.univ (cc0__body i M1 w1 M2 w2 M3 w3 M4 w4) Q } := by
  refine ⟨?_, fun Q => ?run⟩
  case run =>
    iintro ⟨H1, H2, H3, H4, Hk⟩
    sl_exec_parts! (disch := assumption)
    sl_step
    iapply Hk
    isplitl [H1]; · iexact H1
    isplitl [H2]; · iexact H2
    isplitl [H3]; · iexact H3
    iexact H4

/-- The body at the last point (`h1` … `h6` decide its branches): what it leaves in the output's buffer, with the
    proof that from the four buffers held whole it runs to its return, the inputs as they were. -/
def runLast (c : Dev nD) (i : grid0.Coords)
    (M1 : Memref sig .tc .smem S1 .f32) (w1 : M1.IsWhole) (M2 : Memref sig .tc .vmem S256x7168 .bf16) (w2 : M2.IsWhole)
    (M3 : Memref sig .tc .vmem S7168x256 .i8) (w3 : M3.IsWhole) (M4 : Memref sig .tc .vmem S256x19200 .bf16) (w4 : M4.IsWhole)
    (h1 : ¬ k0_cond1 i = 1#1) (h2 : k0_cond2 i = 1#1) (h3 : ¬ k0_cond3 i = 1#1) (h4 : ¬ k0_cond4 i = 1#1) (h5 : k0_cond5 i = 1#1) (h6 : ¬ k0_cond6 i = 1#1)
    (f1 : Bf (F := F) c M1) (f2 : Bf (F := F) c M2) (f3 : Bf (F := F) c M3) (f4 : Bf (F := F) c M4) :
    { W : Bf (F := F) c M4 // ∀ (Q : PUnit → sProp 𝕄),
        iprop(pt c M1 f1 ∗ pt c M2 f2 ∗ pt c M3 f3 ∗ pt c M4 f4
          ∗ (iprop(pt c M1 f1 ∗ pt c M2 f2 ∗ pt c M3 f3 ∗ pt c M4 W) -∗ Q ⟨⟩))
        ⊢ wp frame (wpE (defs₀ (F := F)) Variants.none c none) Set.univ (cc0__body i M1 w1 M2 w2 M3 w3 M4 w4) Q } := by
  refine ⟨?_, fun Q => ?run⟩
  case run =>
    iintro ⟨H1, H2, H3, H4, Hk⟩
    sl_exec_parts! (disch := assumption)
    sl_step
    iapply Hk
    isplitl [H1]; · iexact H1
    isplitl [H2]; · iexact H2
    isplitl [H3]; · iexact H3
    iexact H4

end Cert.KernelIdeal.Hand

end
-- ==== Proof.KernelIdeal.Run.lean ====
module

public import proofs.«01_k».proof.Proof.KernelIdeal.Body
public import Idealize.ShloMosaic.Lib.Pipeline.FrameBody

@[expose] public section

set_option maxRecDepth 16384

/-! # The launch's run

What a grid point's buffers hold is stated as a relation, because a block of packed weights at the array's end is known only
inside the array. From that the whole launch terminates, and the arguments end as they began. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The staging memrefs of the four windows at point `t` are whole. -/
theorem whole0 (t : Fin cfg0.N) : (st0_0 t).IsWhole := hstage0_0 ((cfg0.slots t 0).cast nbuf0_0)
theorem whole1 (t : Fin cfg0.N) : (st0_1 t).IsWhole := hstage0_1 ((cfg0.slots t 1).cast nbuf0_1)
theorem whole2 (t : Fin cfg0.N) : (st0_2 t).IsWhole := hstage0_2 ((cfg0.slots t 2).cast nbuf0_2)
theorem whole3 (t : Fin cfg0.N) : (st0_3 t).IsWhole := hstage0_3 ((cfg0.slots t 3).cast nbuf0_3)

/-- What the body at point `t` leaves in the output's staging buffer, from the four buffers' contents. -/
def outAt (c : Dev nD) (t : Fin cfg0.N) (f1 : Bf (F := F) c (st0_0 t)) (f2 : Bf (F := F) c (st0_1 t)) (f3 : Bf (F := F) c (st0_2 t))
    (f4 : Bf (F := F) c (st0_3 t)) : Bf (F := F) c (st0_3 t) :=
  if h : (grid0.coords t 0).val < 18 then
    (runFull c (grid0.coords t) (st0_0 t) (whole0 t) (st0_1 t) (whole1 t) (st0_2 t) (whole2 t) (st0_3 t) (whole3 t)
      ((cond1 _).2 h) (fun e => absurd ((cond2 _).1 e) (by omega)) ((cond3 _).2 h) ((cond4 _).2 h) (fun e => absurd ((cond5 _).1 e) (by omega)) ((cond6 _).2 h)
      f1 f2 f3 f4).1
  else
    (runLast c (grid0.coords t) (st0_0 t) (whole0 t) (st0_1 t) (whole1 t) (st0_2 t) (whole2 t) (st0_3 t) (whole3 t)
      (fun e => h ((cond1 _).1 e)) ((cond2 _).2 (by have := point_lt (grid0.coords t); omega)) (fun e => h ((cond3 _).1 e)) (fun e => h ((cond4 _).1 e))
      ((cond5 _).2 (by have := point_lt (grid0.coords t); omega)) (fun e => h ((cond6 _).1 e))
      f1 f2 f3 f4).1

/-- The body at any point: from the four buffers held whole it runs to its return, the inputs as they were, the output at `outAt`. -/
theorem run_body (c : Dev nD) (t : Fin cfg0.N) (f1 : Bf (F := F) c (st0_0 t)) (f2 : Bf (F := F) c (st0_1 t)) (f3 : Bf (F := F) c (st0_2 t))
    (f4 : Bf (F := F) c (st0_3 t)) (Q : PUnit → sProp 𝕄) :
    iprop(pt c (st0_0 t) f1 ∗ pt c (st0_1 t) f2 ∗ pt c (st0_2 t) f3 ∗ pt c (st0_3 t) f4
        ∗ (iprop(pt c (st0_0 t) f1 ∗ pt c (st0_1 t) f2 ∗ pt c (st0_2 t) f3 ∗ pt c (st0_3 t) (outAt c t f1 f2 f3 f4)) -∗ Q ⟨⟩))
      ⊢ wp frame (wpE (defs₀ (F := F)) Variants.none c none) Set.univ (bodyAt0 t) Q := by
  unfold outAt bodyAt0
  split
  · exact (runFull c (grid0.coords t) (st0_0 t) (whole0 t) (st0_1 t) (whole1 t) (st0_2 t) (whole2 t) (st0_3 t) (whole3 t) _ _ _ _ _ _ f1 f2 f3 f4).2 Q
  · exact (runLast c (grid0.coords t) (st0_0 t) (whole0 t) (st0_1 t) (whole1 t) (st0_2 t) (whole2 t) (st0_3 t) (whole3 t) _ _ _ _ _ _ f1 f2 f3 f4).2 Q

/-- What the packed weights' staging buffer may hold at point `t`: the block of the array where it lies inside, anything beyond. -/
def WBlock (c : Dev nD) (t : Fin cfg0.N) (Y : (cfg0.win 2).block.Idx → Elt F (cfg0.win 2).elt) : Prop :=
  ∃ d, Y = (cfg0.win 2).fill (cfg0.grid.coords t) d (iblk m c 2 t)

/-- How a point changes the output's staging buffer: from contents reading `Y` to contents reading `X`, the body run from the
    scale, the activations and a block of packed weights. -/
def OutStep (c : Dev nD) (t : Fin cfg0.N) (Y X : (cfg0.win 3).block.Idx → Elt F (cfg0.win 3).elt) : Prop :=
  ∃ (f1 : Bf (F := F) c (st0_0 t)) (f2 : Bf (F := F) c (st0_1 t)) (f3 : Bf (F := F) c (st0_2 t)) (f4 : Bf (F := F) c (st0_3 t)),
    (st0_0 t).view.read (Elt F) f1 = iblk m c 0 t ∧ (st0_1 t).view.read (Elt F) f2 = iblk m c 1 t
      ∧ WBlock m c t ((st0_2 t).view.read (Elt F) f3) ∧ (st0_3 t).view.read (Elt F) f4 = Y
      ∧ (st0_3 t).view.read (Elt F) (outAt c t f1 f2 f3 f4) = X

/-- The proof data on core `c`: the arrays as the region finds them; an input's buffer left as found, the output's changed by
    `OutStep`; the class invariant; full shares; nothing owed. -/
def rdat (c : Dev nD) : RDat τ (Elt F) Unit ℕ (UR sig nD τ) ℕ cfg0 c where
  A w := V m c (Pipeline.arrRef spec0 w)
  after
    | 0 => fun _ Y X => X = Y
    | 1 => fun _ Y X => X = Y
    | 2 => fun _ Y X => X = Y
    | 3 => OutStep m c
    | ⟨_ + 4, h⟩ => absurd h (Nat.not_lt.2 (Nat.le_add_left _ _))
  Φ _ := Pipeline.ΦA spec0 c
  q _ := fullShare
  owed _ := 0

theorem rdat_share (c : Dev nD) (w : Fin cfg0.W) : (rdat (F := F) m c).share w = fullShare := by
  unfold RDat.share; split <;> rfl

theorem rdat_A (c : Dev nD) (w : Fin cfg0.W) : (rdat (F := F) m c).A w = V m c (Pipeline.arrRef spec0 w) := rfl

/-- What the body finds in the scale's, the activations' and the weights' buffers. -/
theorem finds0 (c : Dev nD) (t : Fin cfg0.N) (Y) (h : (rdat (F := F) m c).Finds 0 t Y) : Y = iblk m c 0 t := by
  obtain ⟨d, rfl⟩ := (rdat (F := F) m c).finds_in_eq_fetched 0 rfl (fun _ _ _ => rfl) (fun _ _ _ h => h) t Y h
  unfold RDat.fetched RDat.blockOf iblk; rfl
theorem finds1 (c : Dev nD) (t : Fin cfg0.N) (Y) (h : (rdat (F := F) m c).Finds 1 t Y) : Y = iblk m c 1 t := by
  obtain ⟨d, rfl⟩ := (rdat (F := F) m c).finds_in_eq_fetched 1 rfl (fun _ _ _ => rfl) (fun _ _ _ h => h) t Y h
  unfold RDat.fetched RDat.blockOf iblk; rfl
theorem finds2 (c : Dev nD) (t : Fin cfg0.N) (Y) (h : (rdat (F := F) m c).Finds 2 t Y) : WBlock m c t Y := by
  obtain ⟨d, rfl⟩ := ((rdat (F := F) m c).finds_of_fetch (fetch0_2 t) Y).mp h
  exact ⟨d, rfl⟩

/-- What the body is called with at point `t`, and what it returns. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3))
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜X = Y 0⌝ ∗ owns (c : Thread nD τ) (st0_0 t) fullShare X) ∗ (∃ X, ⌜X = Y 1⌝ ∗ owns (c : Thread nD τ) (st0_1 t) fullShare X)
    ∗ (∃ X, ⌜X = Y 2⌝ ∗ owns (c : Thread nD τ) (st0_2 t) fullShare X) ∗ (∃ X, ⌜OutStep m c t (Y 3) X⌝ ∗ owns (c : Thread nD τ) (st0_3 t) fullShare X))

theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  have h0 := finds0 m c t _ (hY 0)
  have h1 := finds1 m c t _ (hY 1)
  have h2 := finds2 m c t _ (hY 2)
  unfold bodyPre bodyPost
  rw [show (rdat m c).Φ t.succ = (rdat m c).Φ t.castSucc from rfl,
    show (rdat m c).owesAt () t.succ = (rdat m c).owesAt () t.castSucc from rfl]
  unfold owns
  rw [(whole0 t).set_eq_univ, (whole1 t).set_eq_univ, (whole2 t).set_eq_univ, (whole3 t).set_eq_univ]
  iintro ⟨HΦ, HO, ⟨%f1, %e1, H1⟩, ⟨%f2, %e2, H2⟩, ⟨%f3, %e3, H3⟩, ⟨%f4, %e4, H4⟩⟩
  iapply (run_body c t f1 f2 f3 f4 _)
  isplitl [H1]; · iexact H1
  isplitl [H2]; · iexact H2
  isplitl [H3]; · iexact H3
  isplitl [H4]; · iexact H4
  iintro ⟨H1, H2, H3, H4⟩
  isplitl [HΦ]; · iexact HΦ
  isplitl [HO]; · iexact HO
  isplitl [H1]
  · iexists (Y 0); isplitr; · ipureintro; rfl
    iexists f1; isplitr; · ipureintro; exact e1
    iexact H1
  isplitl [H2]
  · iexists (Y 1); isplitr; · ipureintro; rfl
    iexists f2; isplitr; · ipureintro; exact e2
    iexact H2
  isplitl [H3]
  · iexists (Y 2); isplitr; · ipureintro; rfl
    iexists f3; isplitr; · ipureintro; exact e3
    iexact H3
  iexists ((st0_3 t).view.read (Elt F) (outAt c t f1 f2 f3 f4)); isplitr
  · ipureintro; exact ⟨f1, f2, f3, f4, e1.trans h0, e2.trans h1, e3 ▸ h2, e4, rfl⟩
  iexists (outAt c t f1 f2 f3 f4); isplitr; · ipureintro; rfl
  iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation of this proof data. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

set_option backward.isDefEq.respectTransparency.types false in
/-- From any memory with zero counters every weakly fair execution of @main terminates, every final state has each windowed array
    at contents the proof data allows, every other unscoped buffer at its launch contents and every counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := body_obligation m) (hshare := rdat_share m) (howed := fun _ _ => rfl) (V := V m) (hmain := hmain m Variants.none)
    (hA := rdat_A m) (hΦ := fun _ _ => rfl) (hQ' := fun _ h => h)

/-- The three arguments end as they began, and every counter at zero: the frame claim's post at any value instance. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 2 rfl).trans (V_main_arg1 m c),
      ((h.1 c).2 main_arg2 (Pipeline.mem_restRefs_of main_arg2 (by decide) (by decide))).trans (V_main_arg2 m c)⟩, h.2⟩) (run_main m ρ)

end Cert.KernelIdeal.Hand

end
-- ==== Proof.KernelIdeal.Chain.lean ====
module

public import proofs.«01_k».proof.Proof.KernelIdeal.Body

@[expose] public section

set_option maxRecDepth 16384

/-! # The body's stores, in terms of one tile

The body's long straight-line arithmetic is the same tile computed for each of the four fields, and its stores are the same few
patterns. Here the tile and the patterns are defined once, and what the body leaves in the output is written with them. -/

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [∀ e, Nonempty (Elt F e)]

/-- A block of packed weights unpacked at bit `sh` of every byte: the words shifted and masked, read back as bytes, less one. -/
def trits (sh : BitVec 32) (w : Vec F S256x256 .i8) : FVec F S256x256 .bf16 :=
  subf (sitofp .bf16 (bitcast S256x256 8 (andi (shrsi (bitcast S64x256 32 w bitcasts_S256x256_w8_S64x256_w32) (broadcast S64x256 sh))
    (broadcast S64x256 50529027#32)) bitcasts_S64x256_w32_S256x256_w8 : IVec S256x256 8)) (broadcast S256x256 (Scalar.ofBits .bf16 0x3F80#16))

/-- One step of the sum: a block of activations times a block of unpacked weights. -/
def step (sh : BitVec 32) (acc : FVec F S256x256 .f32) (x : Vec F S256x256 .bf16) (w : Vec F S256x256 .i8) : FVec F S256x256 .f32 :=
  addf acc (matmul dot_S256x256_S256x256_S256x256_1_0_0_1_n_n none (shapeCast S256x256 x shapeCasts_S256x256_S256x256) (trits sh w)
    (constant S256x256 .f32 0x00000000#32))

/-- The sum over the first `n` blocks. -/
def accN (sh : BitVec 32) (X : Fin 28 → Vec F S256x256 .bf16) (W : Fin 28 → Vec F S256x256 .i8) : (n : Nat) → n ≤ 28 → FVec F S256x256 .f32
  | 0, _ => broadcast S256x256 (Scalar.ofBits .f32 0x00000000#32)
  | n + 1, h => step sh (accN sh X W n (Nat.le_of_succ_le h)) (X ⟨n, h⟩) (W ⟨n, h⟩)

/-- One field's tile: the sum over all blocks, scaled. -/
def tile (sh : BitVec 32) (s : Elt F .f32) (X : Fin 28 → Vec F S256x256 .bf16) (W : Fin 28 → Vec F S256x256 .i8) : FVec F S256x256 .f32 :=
  mulf (accN sh X W 28 (Nat.le_refl _)) (broadcast S256x256 s)

theorem xinb (k : Fin 28) : ∀ a : Fin 2, (![0, 256 * k.val] : Fin 2 → Nat) a + S256x256.size a ≤ S256x7168.size a := by
  intro a; match a with
  | 0 => exact (by decide : 0 + 256 ≤ 256)
  | 1 => have := k.isLt; show 256 * k.val + 256 ≤ 7168; omega
theorem winb (k : Fin 28) : ∀ a : Fin 2, (![256 * k.val, 0] : Fin 2 → Nat) a + S256x256.size a ≤ S7168x256.size a := by
  intro a; match a with
  | 0 => have := k.isLt; show 256 * k.val + 256 ≤ 7168; omega
  | 1 => exact (by decide : 0 + 256 ≤ 256)

/-- Block `k` of the activations and of the packed weights, loaded from their buffers. -/
def xblk (c : Dev nD) (M2 : Memref sig .tc .vmem S256x7168 .bf16) (f2 : Bf (F := F) c M2) (k : Fin 28) : Vec F S256x256 .bf16 :=
  View.readAt (Elt F) M2.view (Rect.unit (s := S256x7168) ![0, 256 * k.val] S256x256.size (xinb k)).toLoadRect f2
def wblk (c : Dev nD) (M3 : Memref sig .tc .vmem S7168x256 .i8) (f3 : Bf (F := F) c M3) (k : Fin 28) : Vec F S256x256 .i8 :=
  View.readAt (Elt F) M3.view (Rect.unit (s := S7168x256) ![256 * k.val, 0] S256x256.size (winb k)).toLoadRect f3

variable (c : Dev nD) (M1 : Memref sig .tc .smem S1 .f32) (M2 : Memref sig .tc .vmem S256x7168 .bf16) (M3 : Memref sig .tc .vmem S7168x256 .i8)
  (f1 : Bf (F := F) c M1) (f2 : Bf (F := F) c M2) (f3 : Bf (F := F) c M3)

/-- The scale, read from its one-element buffer. -/
def sca : Elt F .f32 := runFull.sl.r c M1 f1

/-- Field tile `j` of the point. -/
def T (sh : BitVec 32) : FVec F S256x256 .f32 := tile sh (sca c M1 f1) (xblk c M2 f2) (wblk c M3 f3)

/-- The left and right halves of a tile, and a half turned by 64 lanes. -/
def lo (y : FVec F S256x256 .f32) : FVec F S256x128 .f32 := extractStridedSlice S256x128 ![0, 0] y slices_S256x256_o0_0_S256x128
def hi (y : FVec F S256x256 .f32) : FVec F S256x128 .f32 := extractStridedSlice S256x128 ![0, 128] y slices_S256x256_o0_128_S256x128
def rot (y : FVec F S256x128 .f32) : FVec F S256x128 .f32 := dynamicRotate 1 64#32 none y rotates_S256x128_d1

/-- What is stored: a half rounded to bfloat16; and, for the stores at the edges of a tile, a mix of two blocks by lane. -/
def rnd (y : FVec F S256x128 .f32) : FVec F S256x128 .bf16 := truncf .bf16 y bitsLt_bf16_f32
def old (v : Vec F S256x128 .bf16) : FVec F S256x128 .f32 := extf .f32 (shapeCast S256x128 v shapeCasts_S256x128_S256x128) bitsLt_bf16_f32
def mix (a b : FVec F S256x128 .f32) : FVec F S256x128 .bf16 := rnd (select k0_pay3 a b)

/-- A block of the output's buffer before the point. -/
def was (c : Dev nD) (M4 : Memref sig .tc .vmem S256x19200 .bf16) (f4 : Bf (F := F) c M4) (off : Fin 2 → Nat)
    (h : ∀ a : Fin 2, off a + S256x128.size a ≤ S256x19200.size a) : FVec F S256x128 .f32 :=
  old (View.readAt (Elt F) M4.view (Rect.unit (s := S256x19200) off S256x128.size h).toLoadRect f4)

/-- One store of a 256 by 128 block at an offset. -/
def pc (off : Fin 2 → Nat) (h : ∀ a : Fin 2, off a + S256x128.size a ≤ S256x19200.size a) (v : FVec F S256x128 .bf16) :
    View.Piece (Elt F) S256x19200 .bf16 := ⟨Rect.unit (s := S256x19200) off S256x128.size h, v⟩

/-- The stores of a point before the last, newest first. -/
theorem runFull_eq (i : grid0.Coords) (w1 : M1.IsWhole) (w2 : M2.IsWhole) (w3 : M3.IsWhole)
    (M4 : Memref sig .tc .vmem S256x19200 .bf16) (w4 : M4.IsWhole) (f4 : Bf (F := F) c M4)
    (h1 : k0_cond1 i = 1#1) (h2 : ¬ k0_cond2 i = 1#1) (h3 : k0_cond3 i = 1#1) (h4 : k0_cond4 i = 1#1) (h5 : ¬ k0_cond5 i = 1#1) (h6 : k0_cond6 i = 1#1) :
    (runFull c i M1 w1 M2 w2 M3 w3 M4 w4 h1 h2 h3 h4 h5 h6 f1 f2 f3 f4).1 = M4.view.writes (Elt F) f4
      (pc (k0_off8 i) (k0_off8_inb i h6) (mix (rot (hi (T c M1 M2 M3 f1 f2 f3 6#32))) (was c M4 f4 (k0_off8 i) (k0_off8_inb i h6)))
      :: pc (k0_off4 i 14336#32) (k0_off4_inb i 1) (mix (rot (lo (T c M1 M2 M3 f1 f2 f3 6#32))) (rot (hi (T c M1 M2 M3 f1 f2 f3 6#32))))
      :: pc (k0_off1 i 14336#32) (k0_off1_inb i 3) (mix (was c M4 f4 (k0_off1 i 14336#32) (k0_off1_inb i 3)) (rot (lo (T c M1 M2 M3 f1 f2 f3 6#32))))
      :: pc (k0_off6 i) (k0_off6_inb i h4) (rnd (hi (T c M1 M2 M3 f1 f2 f3 4#32)))
      :: pc (k0_off1 i 9600#32) (k0_off1_inb i 2) (rnd (lo (T c M1 M2 M3 f1 f2 f3 4#32)))
      :: pc (k0_off5 i) (k0_off5_inb i h3) (mix (rot (hi (T c M1 M2 M3 f1 f2 f3 2#32))) (was c M4 f4 (k0_off5 i) (k0_off5_inb i h3)))
      :: pc (k0_off4 i 4736#32) (k0_off4_inb i 0) (mix (rot (lo (T c M1 M2 M3 f1 f2 f3 2#32))) (rot (hi (T c M1 M2 M3 f1 f2 f3 2#32))))
      :: pc (k0_off1 i 4736#32) (k0_off1_inb i 1) (mix (was c M4 f4 (k0_off1 i 4736#32) (k0_off1_inb i 1)) (rot (lo (T c M1 M2 M3 f1 f2 f3 2#32))))
      :: pc (k0_off2 i) (k0_off2_inb i h1) (rnd (hi (T c M1 M2 M3 f1 f2 f3 0#32)))
      :: pc (k0_off1 i 0#32) (k0_off1_inb i 0) (rnd (lo (T c M1 M2 M3 f1 f2 f3 0#32))) :: []) := rfl

/-- The stores of the last point, newest first: the right halves of the even fields are masked, and the odd fields have
    one store less. -/
theorem runLast_eq (i : grid0.Coords) (w1 : M1.IsWhole) (w2 : M2.IsWhole) (w3 : M3.IsWhole)
    (M4 : Memref sig .tc .vmem S256x19200 .bf16) (w4 : M4.IsWhole) (f4 : Bf (F := F) c M4)
    (h1 : ¬ k0_cond1 i = 1#1) (h2 : k0_cond2 i = 1#1) (h3 : ¬ k0_cond3 i = 1#1) (h4 : ¬ k0_cond4 i = 1#1) (h5 : k0_cond5 i = 1#1) (h6 : ¬ k0_cond6 i = 1#1) :
    (runLast c i M1 w1 M2 w2 M3 w3 M4 w4 h1 h2 h3 h4 h5 h6 f1 f2 f3 f4).1 = M4.view.writes (Elt F) f4
      (pc (k0_off4 i 14336#32) (k0_off4_inb i 1) (mix (rot (lo (T c M1 M2 M3 f1 f2 f3 6#32))) (rot (hi (T c M1 M2 M3 f1 f2 f3 6#32))))
      :: pc (k0_off1 i 14336#32) (k0_off1_inb i 3) (mix (was c M4 f4 (k0_off1 i 14336#32) (k0_off1_inb i 3)) (rot (lo (T c M1 M2 M3 f1 f2 f3 6#32))))
      :: pc (k0_off7 i) (k0_off7_inb i h5) (mix (hi (T c M1 M2 M3 f1 f2 f3 4#32)) (was c M4 f4 (k0_off7 i) (k0_off7_inb i h5)))
      :: pc (k0_off1 i 9600#32) (k0_off1_inb i 2) (rnd (lo (T c M1 M2 M3 f1 f2 f3 4#32)))
      :: pc (k0_off4 i 4736#32) (k0_off4_inb i 0) (mix (rot (lo (T c M1 M2 M3 f1 f2 f3 2#32))) (rot (hi (T c M1 M2 M3 f1 f2 f3 2#32))))
      :: pc (k0_off1 i 4736#32) (k0_off1_inb i 1) (mix (was c M4 f4 (k0_off1 i 4736#32) (k0_off1_inb i 1)) (rot (lo (T c M1 M2 M3 f1 f2 f3 2#32))))
      :: pc (k0_off3 i) (k0_off3_inb i h2) (mix (hi (T c M1 M2 M3 f1 f2 f3 0#32)) (was c M4 f4 (k0_off3 i) (k0_off3_inb i h2)))
      :: pc (k0_off1 i 0#32) (k0_off1_inb i 0) (rnd (lo (T c M1 M2 M3 f1 f2 f3 0#32))) :: []) := rfl

end Cert.KernelIdeal.Hand

end
-- ==== Proof.Stores.lean ====
module

public import proofs.«01_k».proof.Proof.KernelIdeal.Chain
public import Idealize.ShloMosaic.Lib.Pointwise
public import Idealize.ShloMosaic.Lib.VecWindow
public import Idealize.ShloMosaic.Lib.WritesUnit

@[expose] public section

set_option maxRecDepth 16384

/-! # What one field's stores leave in the output

An even field's tile is stored as its two halves. An odd field starts 64 lanes off a boundary of 128, so its tile is
turned by 64 lanes and stored in three pieces, the outer two mixed with what the output held. Either way the columns
of the tile hold the tile, the columns around it hold what they held, and every other column is left to the stores
before. The theorems say that for one field at a time, over any earlier stores. -/

noncomputable section

namespace Cert.KernelIdeal.Hand

open Cert.KernelIdeal Cert.KernelIdeal.Gen
open Idealize.ShloMosaic Idealize.ShloMosaic.TcCoe Idealize.ShloMosaic.Tactic

/-- The mask is the lanes below 64. -/
theorem mask_apply (r : Fin 256) (l : Fin 128) : k0_pay3 (ix2 r l) = if l.val < 64 then 1#1 else 0#1 := by
  have h : ∀ l : Fin 128, IntOp.cmpi .slt (BitVec.ofNat 32 l.val) 64#32 = if l.val < 64 then 1#1 else 0#1 := by decide
  rw [← h l]
  unfold k0_pay3
  pointwise

theorem lo_apply (y : FVec Ideal S256x256 .f32) (r : Fin 256) (l : Fin 128) : lo y (ix2 r l) = y (ix2 r ⟨l.val, by omega⟩) := by
  unfold lo; pointwise
theorem hi_apply (y : FVec Ideal S256x256 .f32) (r : Fin 256) (l : Fin 128) : hi y (ix2 r l) = y (ix2 r ⟨128 + l.val, by omega⟩) := by
  unfold hi; pointwise
theorem rot_apply (y : FVec Ideal S256x128 .f32) (r : Fin 256) (l : Fin 128) : rot y (ix2 r l) = y (ix2 r ⟨(l.val + 64) % 128, by omega⟩) := by
  have e : rot y (ix2 r l) = y (ix2 r ⟨(l.val + 128 - 64) % 128, by omega⟩) := by unfold rot; pointwise
  rw [e]
  congr 2
theorem rnd_eq (y : FVec Ideal S256x128 .f32) : rnd y = y := rfl
theorem mix_apply (a b : FVec Ideal S256x128 .f32) (r : Fin 256) (l : Fin 128) :
    mix a b (ix2 r l) = if l.val < 64 then a (ix2 r l) else b (ix2 r l) := by
  have e := mask_apply r l
  unfold mix
  rw [rnd_eq]
  pointwise
  rw [e]
  split <;> rfl

variable (c : Dev nD) (M4 : Memref sig .tc .vmem S256x19200 .bf16) (f4 : Bf (F := Ideal) c M4)

/-- What a block of the buffer held, by the buffer's contents. -/
theorem was_apply (off : Fin 2 → Nat) (h : ∀ a : Fin 2, off a + S256x128.size a ≤ S256x19200.size a) (o : Nat) (ho : off = ![0, o])
    (r : Fin 256) (l : Fin 128) (C : Fin 19200) (hC : C.val = o + l.val) :
    was c M4 f4 off h (ix2 r l) = M4.view.read (Elt Ideal) f4 (ix2 r C) := by
  subst ho
  have e : was c M4 f4 ![0, o] h = View.readAt (Elt Ideal) M4.view (Rect.unit (s := S256x19200) ![0, o] S256x128.size h).toLoadRect f4 := by
    unfold was old
    funext y
    idx_vars y
    pointwise
  rw [e]
  refine (congrFun (View.readAt_unit M4.view f4 h rfl h) (ix2 r l)).trans (congrArg (M4.view.read (Elt Ideal) f4) (funext fun a => Fin.ext ?_))
  match a with
  | 0 => show 0 + 1 * r.val = r.val; omega
  | 1 => show o + 1 * l.val = C.val; omega

/-- One store read at a column inside it, and outside it. -/
theorem pc_in (off : Fin 2 → Nat) (h : ∀ a : Fin 2, off a + S256x128.size a ≤ S256x19200.size a) (v : FVec Ideal S256x128 .bf16)
    (L : List (View.Piece (Elt Ideal) S256x19200 .bf16)) (o : Nat) (ho : off = ![0, o]) (r : Fin 256) (C : Fin 19200)
    (l : Fin 128) (hC : C.val = o + l.val) :
    M4.view.read (Elt Ideal) (M4.view.writes (Elt Ideal) f4 (pc off h v :: L)) (ix2 r C) = v (ix2 r l) :=
  View.read_writes_cons_unit_of_mem M4.view f4 h v L (ix2 r C) (ix2 r l) ho fun a => by
    match a with
    | 0 => show r.val = 0 + r.val; omega
    | 1 => exact hC
theorem pc_out (off : Fin 2 → Nat) (h : ∀ a : Fin 2, off a + S256x128.size a ≤ S256x19200.size a) (v : FVec Ideal S256x128 .bf16)
    (L : List (View.Piece (Elt Ideal) S256x19200 .bf16)) (o : Nat) (ho : off = ![0, o]) (r : Fin 256) (C : Fin 19200)
    (hC : C.val < o ∨ o + 128 ≤ C.val) :
    M4.view.read (Elt Ideal) (M4.view.writes (Elt Ideal) f4 (pc off h v :: L)) (ix2 r C)
      = M4.view.read (Elt Ideal) (M4.view.writes (Elt Ideal) f4 L) (ix2 r C) :=
  View.read_writes_cons_unit_of_not_mem M4.view f4 h v L (ix2 r C) ho 1 hC

/-- What a field's stores leave at a column: the tile in its own `n` columns from `B`, the old contents in the other columns
    from `a` to `b`, and the earlier stores' result `g` elsewhere. -/
def left (y : FVec Ideal S256x256 .f32) (B n a b : Nat) (g : EReal) (w : EReal) (r : Fin 256) (C : Nat) : EReal :=
  if h : B ≤ C ∧ C < B + n ∧ n ≤ 256 then y (ix2 r ⟨C - B, by omega⟩) else if a ≤ C ∧ C < b then w else g

variable (L : List (View.Piece (Elt Ideal) S256x19200 .bf16)) (y : FVec Ideal S256x256 .f32) (r : Fin 256) (C : Fin 19200)

theorem left_in {B n a b : Nat} {g w : EReal} {r : Fin 256} {C : Nat} (h : B ≤ C ∧ C < B + n ∧ n ≤ 256) (l : Fin 256) (hl : l.val + B = C) :
    left y B n a b g w r C = y (ix2 r l) := by
  unfold left; rw [dif_pos h]
  congr 2; apply Fin.ext; show C - B = l.val; omega
theorem left_old {B n a b : Nat} {g w : EReal} {r : Fin 256} {C : Nat} (h : ¬ (B ≤ C ∧ C < B + n ∧ n ≤ 256)) (h' : a ≤ C ∧ C < b) :
    left y B n a b g w r C = w := by
  unfold left; rw [dif_neg h, if_pos h']
theorem left_out {B n a b : Nat} {g w : EReal} {r : Fin 256} {C : Nat} (h : ¬ (B ≤ C ∧ C < B + n ∧ n ≤ 256)) (h' : ¬ (a ≤ C ∧ C < b)) :
    left y B n a b g w r C = g := by
  unfold left; rw [dif_neg h, if_neg h']

/-- An even field's two stores. -/
theorem even_full {o1 o2 : Fin 2 → Nat} (h1 : ∀ a : Fin 2, o1 a + S256x128.size a ≤ S256x19200.size a) (h2 : ∀ a : Fin 2, o2 a + S256x128.size a ≤ S256x19200.size a)
    (B B' : Nat) (e1 : o1 = ![0, B]) (e2 : o2 = ![0, B']) (hB' : B' = B + 128) :
    M4.view.read (Elt Ideal) (M4.view.writes (Elt Ideal) f4 (pc o2 h2 (rnd (hi y)) :: pc o1 h1 (rnd (lo y)) :: L)) (ix2 r C)
      = left y B 256 B B (M4.view.read (Elt Ideal) (M4.view.writes (Elt Ideal) f4 L) (ix2 r C)) (M4.view.read (Elt Ideal) f4 (ix2 r C)) r C.val := by
  rcases (by omega : (B + 128 ≤ C.val ∧ C.val < B + 256) ∨ (B ≤ C.val ∧ C.val < B + 128) ∨ C.val < B ∨ B + 256 ≤ C.val) with h | h | h
  · rw [pc_in c M4 f4 o2 h2 _ _ B' e2 r C ⟨C.val - B - 128, by omega⟩ (by show _ = _ + (_ - _ - _); omega), rnd_eq, hi_apply,
      left_in y (by omega) ⟨128 + (C.val - B - 128), by omega⟩ (by show 128 + (C.val - B - 128) + B = _; omega)]
  · rw [pc_out c M4 f4 o2 h2 _ _ B' e2 r C (by omega), pc_in c M4 f4 o1 h1 _ _ B e1 r C ⟨C.val - B, by omega⟩ (by show _ = _ + (_ - _); omega), rnd_eq, lo_apply,
      left_in y (by omega) ⟨C.val - B, by omega⟩ (by show C.val - B + B = _; omega)]
  · rw [pc_out c M4 f4 o2 h2 _ _ B' e2 r C (by omega), pc_out c M4 f4 o1 h1 _ _ B e1 r C (by omega), left_out y (by omega) (by omega)]

/-- An even field's two stores at the last point, the second one masked. -/
theorem even_last {o1 o2 : Fin 2 → Nat} (h1 : ∀ a : Fin 2, o1 a + S256x128.size a ≤ S256x19200.size a) (h2 : ∀ a : Fin 2, o2 a + S256x128.size a ≤ S256x19200.size a)
    (B B' : Nat) (e1 : o1 = ![0, B]) (e2 : o2 = ![0, B']) (hB' : B' = B + 128) :
    M4.view.read (Elt Ideal) (M4.view.writes (Elt Ideal) f4 (pc o2 h2 (mix (hi y) (was c M4 f4 o2 h2)) :: pc o1 h1 (rnd (lo y)) :: L)) (ix2 r C)
      = left y B 192 B (B + 256) (M4.view.read (Elt Ideal) (M4.view.writes (Elt Ideal) f4 L) (ix2 r C)) (M4.view.read (Elt Ideal) f4 (ix2 r C)) r C.val := by
  rcases (by omega : (B + 192 ≤ C.val ∧ C.val < B + 256) ∨ (B + 128 ≤ C.val ∧ C.val < B + 192) ∨ (B ≤ C.val ∧ C.val < B + 128) ∨ C.val < B ∨ B + 256 ≤ C.val) with h | h | h | h
  · rw [pc_in c M4 f4 o2 h2 _ _ B' e2 r C ⟨C.val - B - 128, by omega⟩ (by show _ = _ + (_ - _ - _); omega), mix_apply,
      if_neg (by show ¬ C.val - B - 128 < 64; omega), was_apply c M4 f4 o2 h2 B' e2 r _ C (by show _ = _ + (_ - _ - _); omega), left_old y (by omega) (by omega)]
  · rw [pc_in c M4 f4 o2 h2 _ _ B' e2 r C ⟨C.val - B - 128, by omega⟩ (by show _ = _ + (_ - _ - _); omega), mix_apply,
      if_pos (by show C.val - B - 128 < 64; omega), hi_apply,
      left_in y (by omega) ⟨128 + (C.val - B - 128), by omega⟩ (by show 128 + (C.val - B - 128) + B = _; omega)]
  · rw [pc_out c M4 f4 o2 h2 _ _ B' e2 r C (by omega), pc_in c M4 f4 o1 h1 _ _ B e1 r C ⟨C.val - B, by omega⟩ (by show _ = _ + (_ - _); omega), rnd_eq, lo_apply,
      left_in y (by omega) ⟨C.val - B, by omega⟩ (by show C.val - B + B = _; omega)]
  · rw [pc_out c M4 f4 o2 h2 _ _ B' e2 r C (by omega), pc_out c M4 f4 o1 h1 _ _ B e1 r C (by omega), left_out y (by omega) (by omega)]

/-- The first two stores of an odd field: the tile's first 192 columns, the 64 before them unchanged. -/
theorem odd_last {o1 o2 : Fin 2 → Nat} (h1 : ∀ a : Fin 2, o1 a + S256x128.size a ≤ S256x19200.size a) (h2 : ∀ a : Fin 2, o2 a + S256x128.size a ≤ S256x19200.size a)
    (B A A' : Nat) (e1 : o1 = ![0, A]) (e2 : o2 = ![0, A']) (hA : A + 64 = B) (hA' : A' = A + 128) :
    M4.view.read (Elt Ideal) (M4.view.writes (Elt Ideal) f4 (pc o2 h2 (mix (rot (lo y)) (rot (hi y))) :: pc o1 h1 (mix (was c M4 f4 o1 h1) (rot (lo y))) :: L)) (ix2 r C)
      = left y B 192 (B - 64) B (M4.view.read (Elt Ideal) (M4.view.writes (Elt Ideal) f4 L) (ix2 r C)) (M4.view.read (Elt Ideal) f4 (ix2 r C)) r C.val := by
  rcases (by omega : (B + 128 ≤ C.val ∧ C.val < B + 192) ∨ (B + 64 ≤ C.val ∧ C.val < B + 128) ∨ (B ≤ C.val ∧ C.val < B + 64) ∨ (A ≤ C.val ∧ C.val < B) ∨ C.val < A ∨ B + 192 ≤ C.val) with h | h | h | h | h
  · rw [pc_in c M4 f4 o2 h2 _ _ A' e2 r C ⟨C.val - B - 64, by omega⟩ (by show _ = _ + (_ - _ - _); omega), mix_apply,
      if_neg (by show ¬ C.val - B - 64 < 64; omega), rot_apply, hi_apply,
      left_in y (by omega) ⟨128 + ((C.val - B - 64 + 64) % 128), by omega⟩ (by show 128 + ((C.val - B - 64 + 64) % 128) + B = _; omega)]
  · rw [pc_in c M4 f4 o2 h2 _ _ A' e2 r C ⟨C.val - B - 64, by omega⟩ (by show _ = _ + (_ - _ - _); omega), mix_apply,
      if_pos (by show C.val - B - 64 < 64; omega), rot_apply, lo_apply,
      left_in y (by omega) ⟨(C.val - B - 64 + 64) % 128, by omega⟩ (by show (C.val - B - 64 + 64) % 128 + B = _; omega)]
  · rw [pc_out c M4 f4 o2 h2 _ _ A' e2 r C (by omega), pc_in c M4 f4 o1 h1 _ _ A e1 r C ⟨C.val - A, by omega⟩ (by show _ = _ + (_ - _); omega), mix_apply,
      if_neg (by show ¬ C.val - A < 64; omega), rot_apply, lo_apply,
      left_in y (by omega) ⟨(C.val - A + 64) % 128, by omega⟩ (by show (C.val - A + 64) % 128 + B = _; omega)]
  · rw [pc_out c M4 f4 o2 h2 _ _ A' e2 r C (by omega), pc_in c M4 f4 o1 h1 _ _ A e1 r C ⟨C.val - A, by omega⟩ (by show _ = _ + (_ - _); omega), mix_apply,
      if_pos (by show C.val - A < 64; omega), was_apply c M4 f4 o1 h1 A e1 r _ C (by show _ = _ + (_ - _); omega), left_old y (by omega) (by omega)]
  · rw [pc_out c M4 f4 o2 h2 _ _ A' e2 r C (by omega), pc_out c M4 f4 o1 h1 _ _ A e1 r C (by omega), left_out y (by omega) (by omega)]

/-- An odd field's three stores: the tile's 256 columns, the 64 on either side unchanged. -/
theorem odd_full {o1 o2 o3 : Fin 2 → Nat} (h1 : ∀ a : Fin 2, o1 a + S256x128.size a ≤ S256x19200.size a) (h2 : ∀ a : Fin 2, o2 a + S256x128.size a ≤ S256x19200.size a)
    (h3 : ∀ a : Fin 2, o3 a + S256x128.size a ≤ S256x19200.size a)
    (B A A' A'' : Nat) (e1 : o1 = ![0, A]) (e2 : o2 = ![0, A']) (e3 : o3 = ![0, A'']) (hA : A + 64 = B) (hA' : A' = A + 128) (hA'' : A'' = A + 256) :
    M4.view.read (Elt Ideal) (M4.view.writes (Elt Ideal) f4 (pc o3 h3 (mix (rot (hi y)) (was c M4 f4 o3 h3)) :: pc o2 h2 (mix (rot (lo y)) (rot (hi y)))
        :: pc o1 h1 (mix (was c M4 f4 o1 h1) (rot (lo y))) :: L)) (ix2 r C)
      = left y B 256 (B - 64) (B + 320) (M4.view.read (Elt Ideal) (M4.view.writes (Elt Ideal) f4 L) (ix2 r C)) (M4.view.read (Elt Ideal) f4 (ix2 r C)) r C.val := by
  rcases (by omega : (B + 256 ≤ C.val ∧ C.val < B + 320) ∨ (B + 192 ≤ C.val ∧ C.val < B + 256) ∨ (C.val < B + 192 ∨ B + 320 ≤ C.val)) with h | h | h
  · rw [pc_in c M4 f4 o3 h3 _ _ A'' e3 r C ⟨C.val - B - 192, by omega⟩ (by show _ = _ + (_ - _ - _); omega), mix_apply,
      if_neg (by show ¬ C.val - B - 192 < 64; omega), was_apply c M4 f4 o3 h3 A'' e3 r _ C (by show _ = _ + (_ - _ - _); omega), left_old y (by omega) (by omega)]
  · rw [pc_in c M4 f4 o3 h3 _ _ A'' e3 r C ⟨C.val - B - 192, by omega⟩ (by show _ = _ + (_ - _ - _); omega), mix_apply,
      if_pos (by show C.val - B - 192 < 64; omega), rot_apply, hi_apply,
      left_in y (by omega) ⟨128 + ((C.val - B - 192 + 64) % 128), by omega⟩ (by show 128 + ((C.val - B - 192 + 64) % 128) + B = _; omega)]
  · rw [pc_out c M4 f4 o3 h3 _ _ A'' e3 r C (by omega), odd_last c M4 f4 L y r C h1 h2 B A A' e1 e2 hA hA']
    unfold left
    by_cases h' : B ≤ C.val ∧ C.val < B + 192
    · rw [dif_pos (by omega), dif_pos (by omega)]
    · rw [dif_neg (by omega), dif_neg (by omega)]
      by_cases h'' : B - 64 ≤ C.val ∧ C.val < B
      · rw [if_pos h'', if_pos (by omega)]
      · rw [if_neg h'', if_neg (by omega)]

end Cert.KernelIdeal.Hand

end
-- ==== Proof.Bits.lean ====
module

public import proofs.«01_k».proof.Proof.Gen.KernelIdeal
public import Idealize.ShloMosaic.Lib.Pointwise
public import Idealize.ShloMosaic.Lib.BitcastFour

@[expose] public section

set_option maxRecDepth 16384

/-! # Four two-bit fields of a byte

The kernel unpacks four bytes at a time: it reads the byte block as 32-bit words, shifts every word right by `2 j`, keeps
the low two bits of each byte, and reads the words back as bytes. This module says that what comes back at every
position is field `j` of the byte at that position, and that this is the number the reference computes with a 32-bit
shift and mask of the zero-extended byte. -/

namespace Cert.Bits

open Cert.KernelIdeal Idealize.ShloMosaic

/-- Field `j` of a byte: its bits `2 j` and `2 j + 1`. -/
def field (j : Fin 4) (b : BitVec 8) : BitVec 8 := (b >>> (2 * j.val)) &&& 3#8

/-- The amount field `j` is shifted by, as the kernel prints it. -/
def sh (j : Fin 4) : BitVec 32 := BitVec.ofNat 32 (2 * j.val)

/-- Bit `q` of the mask `0x03030303` is set exactly when `q` is one of the low two bits of its byte. -/
theorem mask_bit (q : Fin 32) : (50529027#32).getLsbD q.val = decide (q.val % 8 < 2) := by
  revert q; decide

theorem three_bit (q : Fin 8) : (3#8).getLsbD q.val = decide (q.val < 2) := by
  revert q; decide

/-- A byte read back from the shifted and masked words is field `j` of the byte that was there. -/
theorem unpack_apply (w : IVec S256x256 8) (j : Fin 4)
    (h1 : S256x256.Bitcasts 8 S64x256 32) (h2 : S64x256.Bitcasts 32 S256x256 8) (p l : Fin 256) :
    bitcast S256x256 8 (andi (shrsi (bitcast S64x256 32 w h1) (broadcast S64x256 (sh j))) (broadcast S64x256 50529027#32)) h2 (ix2 p l)
      = field j (w (ix2 p l)) := by
  apply BitVec.eq_of_getLsbD_eq
  intro q hq
  have hp := p.isLt
  have hj := j.isLt
  rw [bitcast_getLsbD _ h2 _ q hq (by decide)]
  have hrow : S256x256.row (ix2 p l) = p.val := rfl
  have hsrc : ∀ hh, h2.srcIdx (ix2 p l) ((S256x256.row (ix2 p l) * 8 + q) / 32) hh = ix2 (n0 := 64) ⟨p.val / 4, by omega⟩ l := by
    intro hh
    funext a
    apply Fin.ext
    match a with
    | 0 => exact (h2.srcIdx_row _ _ hh 0 rfl).trans (by rw [hrow]; show (p.val * 8 + q) / 32 = p.val / 4; omega)
    | 1 => exact h2.srcIdx_other _ _ hh 1 (by decide)
  rw [hsrc]
  have hpos : (S256x256.row (ix2 p l) * 8 + q) % 32 = 8 * (p.val % 4) + q := by rw [hrow]; omega
  rw [hpos]
  show (IntOp.andi (IntOp.shrsi _ (bitcast S64x256 32 w h1 (ix2 ⟨p.val / 4, _⟩ l)) (sh j)) 50529027#32).getLsbD (8 * (p.val % 4) + q) = _
  have hsh : (sh j).toNat = 2 * j.val := by
    show (2 * j.val) % 2 ^ 32 = _
    exact Nat.mod_eq_of_lt (by omega)
  rw [IntOp.andi, IntOp.shrsi, if_pos (by rw [hsh]; omega), BitVec.getLsbD_and, mask_bit ⟨8 * (p.val % 4) + q, by omega⟩, BitVec.sshiftRight',
    hsh, BitVec.getLsbD_sshiftRight, field, BitVec.getLsbD_and, three_bit ⟨q, hq⟩, BitVec.getLsbD_ushiftRight]
  dsimp only
  by_cases hq2 : q < 2
  · have hm : decide ((8 * (p.val % 4) + q) % 8 < 2) = true := decide_eq_true (by omega)
    rw [hm, decide_eq_true hq2, Bool.and_true, Bool.and_true, if_pos (by omega)]
    have hd : decide (32 ≤ 8 * (p.val % 4) + q) = false := decide_eq_false (by omega)
    rw [hd, Bool.not_false, Bool.true_and]
    refine (bitcast_8_32_getLsbD_ix2 w h1 ⟨p.val / 4, by omega⟩ l _ (by omega) p ?_).trans ?_
    · show p.val = 4 * (p.val / 4) + (2 * j.val + (8 * (p.val % 4) + q)) / 8; omega
    · have : (2 * j.val + (8 * (p.val % 4) + q)) % 8 = 2 * j.val + q := by omega
      rw [this]; rfl
  · have hm : decide ((8 * (p.val % 4) + q) % 8 < 2) = false := decide_eq_false (by omega)
    rw [hm, decide_eq_false hq2, Bool.and_false, Bool.and_false]

/-- The reference's field of the zero-extended byte is the same number. -/
theorem field_toInt (j : Fin 4) (b : BitVec 8) :
    (IntOp.andi (IntOp.shrsi .host (BitVec.setWidth 32 b) (sh j)) 3#32).toInt = (field j b).toInt := by
  have h : ∀ (n : Fin 256), ∀ j : Fin 4,
      (IntOp.andi (IntOp.shrsi .host (BitVec.setWidth 32 (BitVec.ofFin n : BitVec 8)) (sh j)) 3#32).toInt = (field j (BitVec.ofFin n)).toInt := by
    decide
  exact h b.toFin j

end Cert.Bits

end
-- ==== Proof.Sums.lean ====
module

public import proofs.«01_k».proof.Proof.Bits
public import proofs.«01_k».proof.Proof.KernelIdeal.Chain
public import Idealize.ShloMosaic.Lib.Pointwise
public import Idealize.ShloMosaic.Lib.VecWindow
public import Idealize.ShloMosaic.Lib.IdealHost

@[expose] public section

set_option maxRecDepth 16384

/-! # A field tile over the extended reals

What one element of a field's tile is: the sum over the 7168 contracted positions, in 28 blocks of 256, of the
activation times the unpacked weight, times the scale. -/

noncomputable section

namespace Cert.KernelIdeal.Hand

open Cert.KernelIdeal Cert.KernelIdeal.Gen Cert.Bits
open Idealize.ShloMosaic Idealize.ShloMosaic.TcCoe Idealize.ShloMosaic.Tactic

/-- The unpacked weight of a byte: its field `j` less one. -/
def trit (j : Fin 4) (b : BitVec 8) : EReal := (((field j b).toInt : ℝ) : EReal) - 1

theorem trits_apply (j : Fin 4) (w : Vec Ideal S256x256 .i8) (p l : Fin 256) :
    trits (F := Ideal) (sh j) w (ix2 p l) = trit j (w (ix2 p l)) := by
  have e := unpack_apply w j bitcasts_S256x256_w8_S64x256_w32 bitcasts_S64x256_w32_S256x256_w8 p l
  unfold trits trit
  rw [← e]
  pointwise
  rfl

theorem step_apply (j : Fin 4) (acc : FVec Ideal S256x256 .f32) (x : Vec Ideal S256x256 .bf16) (w : Vec Ideal S256x256 .i8) (r l : Fin 256) :
    step (F := Ideal) (sh j) acc x w (ix2 r l) = acc (ix2 r l) + ∑ q : Fin 256, x (ix2 r q) * trit j (w (ix2 q l)) := by
  unfold step
  pointwise
  simp only [trits_apply]

theorem accN_apply (j : Fin 4) (X : Fin 28 → Vec Ideal S256x256 .bf16) (W : Fin 28 → Vec Ideal S256x256 .i8) (r l : Fin 256) (n : Nat) (h : n ≤ 28) :
    accN (F := Ideal) (sh j) X W n h (ix2 r l)
      = ∑ k : Fin n, ∑ q : Fin 256, X (k.castLE h) (ix2 r q) * trit j (W (k.castLE h) (ix2 q l)) := by
  induction n with
  | zero => unfold accN; pointwise; rfl
  | succ n ih =>
    rw [accN, step_apply, ih]
    exact (Fin.sum_univ_castSucc fun k : Fin (n + 1) => ∑ q : Fin 256, X (k.castLE h) (ix2 r q) * trit j (W (k.castLE h) (ix2 q l))).symm

theorem tile_apply (j : Fin 4) (s : Elt Ideal .f32) (X : Fin 28 → Vec Ideal S256x256 .bf16) (W : Fin 28 → Vec Ideal S256x256 .i8) (r l : Fin 256) :
    tile (F := Ideal) (sh j) s X W (ix2 r l)
      = (∑ k : Fin 28, ∑ q : Fin 256, X k (ix2 r q) * trit j (W k (ix2 q l))) * s := by
  have e := accN_apply j X W r l 28 (Nat.le_refl _)
  unfold tile
  rw [mulf_apply, e]
  rfl

/-- A loaded block of activations, and of packed weights, by the contents of its buffer. -/
theorem xblk_apply (c : Dev nD) (M2 : Memref sig .tc .vmem S256x7168 .bf16) (f2 : Bf (F := Ideal) c M2) (k : Fin 28) (r q : Fin 256) :
    xblk c M2 f2 k (ix2 r q) = M2.view.read (Elt Ideal) f2 (ix2 r ⟨256 * k.val + q.val, by omega⟩) := by
  have e := congrFun (View.readAt_unit M2.view f2 (xinb k) rfl (xinb k)) (ix2 r q)
  refine e.trans (congrArg (M2.view.read (Elt Ideal) f2) (funext fun a => Fin.ext ?_))
  match a with
  | 0 => show 0 + 1 * r.val = r.val; omega
  | 1 => show 256 * k.val + 1 * q.val = 256 * k.val + q.val; omega
theorem wblk_apply (c : Dev nD) (M3 : Memref sig .tc .vmem S7168x256 .i8) (f3 : Bf (F := Ideal) c M3) (k : Fin 28) (q l : Fin 256) :
    wblk c M3 f3 k (ix2 q l) = M3.view.read (Elt Ideal) f3 (ix2 ⟨256 * k.val + q.val, by omega⟩ l) := by
  have e := congrFun (View.readAt_unit M3.view f3 (winb k) rfl (winb k)) (ix2 q l)
  refine e.trans (congrArg (M3.view.read (Elt Ideal) f3) (funext fun a => Fin.ext ?_))
  match a with
  | 0 => show 256 * k.val + 1 * q.val = 256 * k.val + q.val; omega
  | 1 => show 0 + 1 * l.val = l.val; omega

end Cert.KernelIdeal.Hand

end
-- ==== Proof.Point.lean ====
module

public import proofs.«01_k».proof.Proof.Stores
public import proofs.«01_k».proof.Proof.Sums
public import proofs.«01_k».proof.Proof.KernelIdeal.Offsets

@[expose] public section

set_option maxRecDepth 16384

/-! # What one grid point leaves in the output

Point `t` writes, in each of the four fields, the columns `256 t` to `256 t + 255` that the field has, and leaves every
other column of the output as it was. -/

noncomputable section

namespace Cert.KernelIdeal.Hand

open Cert.KernelIdeal Cert.KernelIdeal.Gen Cert.Bits
open Idealize.ShloMosaic Idealize.ShloMosaic.TcCoe Idealize.ShloMosaic.Tactic

/-- The four fields' columns of width `n` at `256 t`, over old contents `w`: column `C` holds its field's tile when it is one of
    them and `w` otherwise. -/
def fields (y : Fin 4 → FVec Ideal S256x256 .f32) (t : Nat) (w : EReal) (r : Fin 256) (C : Fin 19200) : EReal :=
  if h : (C.val % 4800) / 256 = t then y ⟨C.val / 4800, by omega⟩ (ix2 r ⟨C.val % 4800 - 256 * t, by omega⟩) else w

theorem fields_in (y : Fin 4 → FVec Ideal S256x256 .f32) (t : Nat) (w : EReal) (r : Fin 256) (C : Fin 19200) (j : Fin 4) (l : Fin 256)
    (hC : C.val = 4800 * j.val + 256 * t + l.val) (hl : 256 * t + l.val < 4800) : fields y t w r C = y j (ix2 r l) := by
  have hj := j.isLt
  have hl' := l.isLt
  have hd : C.val / 4800 = j.val := by omega
  unfold fields
  rw [dif_pos (by omega)]
  have e1 : (⟨C.val / 4800, by omega⟩ : Fin 4) = j := Fin.ext hd
  rw [e1]
  congr 2; apply Fin.ext; show C.val % 4800 - 256 * t = l.val; omega

/-- The nest of the four fields' stores, before the last point. -/
theorem nest_full (y : Fin 4 → FVec Ideal S256x256 .f32) (t : Nat) (ht : t < 18) (w : EReal) (r : Fin 256) (C : Fin 19200) :
    left (y 3) (14400 + 256 * t) 256 (14400 + 256 * t - 64) (14400 + 256 * t + 320)
      (left (y 2) (9600 + 256 * t) 256 (9600 + 256 * t) (9600 + 256 * t)
        (left (y 1) (4800 + 256 * t) 256 (4800 + 256 * t - 64) (4800 + 256 * t + 320)
          (left (y 0) (0 + 256 * t) 256 (0 + 256 * t) (0 + 256 * t) w w r C.val) w r C.val) w r C.val) w r C.val = fields y t w r C := by
  have hC := C.isLt
  by_cases h : (C.val % 4800) / 256 = t
  · rcases (by omega : C.val / 4800 = 0 ∨ C.val / 4800 = 1 ∨ C.val / 4800 = 2 ∨ C.val / 4800 = 3) with hj | hj | hj | hj
    · rw [fields_in y t w r C 0 ⟨C.val % 4800 - 256 * t, by omega⟩ (by show C.val = 4800 * 0 + 256 * t + (C.val % 4800 - 256 * t); omega) (by show 256 * t + (C.val % 4800 - 256 * t) < 4800; omega)]
      rw [left_out (y 3) (by omega) (by omega), left_out (y 2) (by omega) (by omega), left_out (y 1) (by omega) (by omega),
        left_in (y 0) (by omega) ⟨C.val % 4800 - 256 * t, by omega⟩ (by show C.val % 4800 - 256 * t + (0 + 256 * t) = C.val; omega)]
    · rw [fields_in y t w r C 1 ⟨C.val % 4800 - 256 * t, by omega⟩ (by show C.val = 4800 * 1 + 256 * t + (C.val % 4800 - 256 * t); omega) (by show 256 * t + (C.val % 4800 - 256 * t) < 4800; omega)]
      rw [left_out (y 3) (by omega) (by omega), left_out (y 2) (by omega) (by omega),
        left_in (y 1) (by omega) ⟨C.val % 4800 - 256 * t, by omega⟩ (by show C.val % 4800 - 256 * t + (4800 + 256 * t) = C.val; omega)]
    · rw [fields_in y t w r C 2 ⟨C.val % 4800 - 256 * t, by omega⟩ (by show C.val = 4800 * 2 + 256 * t + (C.val % 4800 - 256 * t); omega) (by show 256 * t + (C.val % 4800 - 256 * t) < 4800; omega)]
      rw [left_out (y 3) (by omega) (by omega),
        left_in (y 2) (by omega) ⟨C.val % 4800 - 256 * t, by omega⟩ (by show C.val % 4800 - 256 * t + (9600 + 256 * t) = C.val; omega)]
    · rw [fields_in y t w r C 3 ⟨C.val % 4800 - 256 * t, by omega⟩ (by show C.val = 4800 * 3 + 256 * t + (C.val % 4800 - 256 * t); omega) (by show 256 * t + (C.val % 4800 - 256 * t) < 4800; omega)]
      rw [left_in (y 3) (by omega) ⟨C.val % 4800 - 256 * t, by omega⟩ (by show C.val % 4800 - 256 * t + (14400 + 256 * t) = C.val; omega)]
  · unfold fields left
    rw [dif_neg h, dif_neg (by omega), dif_neg (by omega), dif_neg (by omega), dif_neg (by omega)]
    simp only [ite_self]

/-- The same at the last point, where a field has only 192 columns left. -/
theorem nest_last (y : Fin 4 → FVec Ideal S256x256 .f32) (t : Nat) (ht : t = 18) (w : EReal) (r : Fin 256) (C : Fin 19200) :
    left (y 3) (14400 + 256 * t) 192 (14400 + 256 * t - 64) (14400 + 256 * t)
      (left (y 2) (9600 + 256 * t) 192 (9600 + 256 * t) (9600 + 256 * t + 256)
        (left (y 1) (4800 + 256 * t) 192 (4800 + 256 * t - 64) (4800 + 256 * t)
          (left (y 0) (0 + 256 * t) 192 (0 + 256 * t) (0 + 256 * t + 256) w w r C.val) w r C.val) w r C.val) w r C.val = fields y t w r C := by
  have hC := C.isLt
  subst ht
  by_cases h : (C.val % 4800) / 256 = 18
  · rcases (by omega : C.val / 4800 = 0 ∨ C.val / 4800 = 1 ∨ C.val / 4800 = 2 ∨ C.val / 4800 = 3) with hj | hj | hj | hj
    · rw [fields_in y 18 w r C 0 ⟨C.val % 4800 - 256 * 18, by omega⟩ (by show C.val = 4800 * 0 + 256 * 18 + (C.val % 4800 - 256 * 18); omega) (by show 256 * 18 + (C.val % 4800 - 256 * 18) < 4800; omega)]
      rw [left_out (y 3) (by omega) (by omega), left_out (y 2) (by omega) (by omega), left_out (y 1) (by omega) (by omega),
        left_in (y 0) (by omega) ⟨C.val % 4800 - 256 * 18, by omega⟩ (by show C.val % 4800 - 256 * 18 + (0 + 256 * 18) = C.val; omega)]
    · rw [fields_in y 18 w r C 1 ⟨C.val % 4800 - 256 * 18, by omega⟩ (by show C.val = 4800 * 1 + 256 * 18 + (C.val % 4800 - 256 * 18); omega) (by show 256 * 18 + (C.val % 4800 - 256 * 18) < 4800; omega)]
      rw [left_out (y 3) (by omega) (by omega), left_out (y 2) (by omega) (by omega),
        left_in (y 1) (by omega) ⟨C.val % 4800 - 256 * 18, by omega⟩ (by show C.val % 4800 - 256 * 18 + (4800 + 256 * 18) = C.val; omega)]
    · rw [fields_in y 18 w r C 2 ⟨C.val % 4800 - 256 * 18, by omega⟩ (by show C.val = 4800 * 2 + 256 * 18 + (C.val % 4800 - 256 * 18); omega) (by show 256 * 18 + (C.val % 4800 - 256 * 18) < 4800; omega)]
      rw [left_out (y 3) (by omega) (by omega),
        left_in (y 2) (by omega) ⟨C.val % 4800 - 256 * 18, by omega⟩ (by show C.val % 4800 - 256 * 18 + (9600 + 256 * 18) = C.val; omega)]
    · rw [fields_in y 18 w r C 3 ⟨C.val % 4800 - 256 * 18, by omega⟩ (by show C.val = 4800 * 3 + 256 * 18 + (C.val % 4800 - 256 * 18); omega) (by show 256 * 18 + (C.val % 4800 - 256 * 18) < 4800; omega)]
      rw [left_in (y 3) (by omega) ⟨C.val % 4800 - 256 * 18, by omega⟩ (by show C.val % 4800 - 256 * 18 + (14400 + 256 * 18) = C.val; omega)]
  · unfold fields left
    rw [dif_neg h, dif_neg (by omega), dif_neg (by omega), dif_neg (by omega), dif_neg (by omega)]
    simp only [ite_self]

variable (c : Dev nD) (i : grid0.Coords) (M1 : Memref sig .tc .smem S1 .f32) (w1 : M1.IsWhole) (M2 : Memref sig .tc .vmem S256x7168 .bf16) (w2 : M2.IsWhole)
    (M3 : Memref sig .tc .vmem S7168x256 .i8) (w3 : M3.IsWhole) (M4 : Memref sig .tc .vmem S256x19200 .bf16) (w4 : M4.IsWhole)
    (f1 : Bf (F := Ideal) c M1) (f2 : Bf (F := Ideal) c M2) (f3 : Bf (F := Ideal) c M3) (f4 : Bf (F := Ideal) c M4)

/-- The four tiles of a point. -/
def tiles (j : Fin 4) : FVec Ideal S256x256 .f32 := T c M1 M2 M3 f1 f2 f3 (sh j)

theorem full_apply (h1 : k0_cond1 i = 1#1) (h2 : ¬ k0_cond2 i = 1#1) (h3 : k0_cond3 i = 1#1) (h4 : k0_cond4 i = 1#1) (h5 : ¬ k0_cond5 i = 1#1) (h6 : k0_cond6 i = 1#1)
    (r : Fin 256) (C : Fin 19200) :
    M4.view.read (Elt Ideal) (runFull c i M1 w1 M2 w2 M3 w3 M4 w4 h1 h2 h3 h4 h5 h6 f1 f2 f3 f4).1 (ix2 r C)
      = fields (tiles c M1 M2 M3 f1 f2 f3) (i 0).val (M4.view.read (Elt Ideal) f4 (ix2 r C)) r C := by
  rw [runFull_eq,
    odd_full c M4 f4 _ _ r C (o1 := k0_off1 i 14336#32) (o2 := k0_off4 i 14336#32) (o3 := k0_off8 i) (k0_off1_inb i 3) (k0_off4_inb i 1) (k0_off8_inb i h6)
      (14400 + 256 * (i 0).val) _ _ _ (off1_3 i) (off4_3 i) (off8 i) (by omega) (by omega) (by omega),
    even_full c M4 f4 _ _ r C (o1 := k0_off1 i 9600#32) (o2 := k0_off6 i) (k0_off1_inb i 2) (k0_off6_inb i h4) (9600 + 256 * (i 0).val) _ (off1_2 i) (off6 i) (by omega),
    odd_full c M4 f4 _ _ r C (o1 := k0_off1 i 4736#32) (o2 := k0_off4 i 4736#32) (o3 := k0_off5 i) (k0_off1_inb i 1) (k0_off4_inb i 0) (k0_off5_inb i h3)
      (4800 + 256 * (i 0).val) _ _ _ (off1_1 i) (off4_1 i) (off5 i) (by omega) (by omega) (by omega),
    even_full c M4 f4 _ _ r C (o1 := k0_off1 i 0#32) (o2 := k0_off2 i) (k0_off1_inb i 0) (k0_off2_inb i h1) (0 + 256 * (i 0).val) _ (off1_0 i) (off2 i) (by omega)]
  exact nest_full (tiles c M1 M2 M3 f1 f2 f3) (i 0).val ((cond1 i).1 h1) (M4.view.read (Elt Ideal) f4 (ix2 r C)) r C

theorem last_apply (h1 : ¬ k0_cond1 i = 1#1) (h2 : k0_cond2 i = 1#1) (h3 : ¬ k0_cond3 i = 1#1) (h4 : ¬ k0_cond4 i = 1#1) (h5 : k0_cond5 i = 1#1) (h6 : ¬ k0_cond6 i = 1#1)
    (r : Fin 256) (C : Fin 19200) :
    M4.view.read (Elt Ideal) (runLast c i M1 w1 M2 w2 M3 w3 M4 w4 h1 h2 h3 h4 h5 h6 f1 f2 f3 f4).1 (ix2 r C)
      = fields (tiles c M1 M2 M3 f1 f2 f3) (i 0).val (M4.view.read (Elt Ideal) f4 (ix2 r C)) r C := by
  rw [runLast_eq,
    odd_last c M4 f4 _ _ r C (o1 := k0_off1 i 14336#32) (o2 := k0_off4 i 14336#32) (k0_off1_inb i 3) (k0_off4_inb i 1)
      (14400 + 256 * (i 0).val) _ _ (off1_3 i) (off4_3 i) (by omega) (by omega),
    even_last c M4 f4 _ _ r C (o1 := k0_off1 i 9600#32) (o2 := k0_off7 i) (k0_off1_inb i 2) (k0_off7_inb i h5) (9600 + 256 * (i 0).val) _ (off1_2 i) (off7 i) (by omega),
    odd_last c M4 f4 _ _ r C (o1 := k0_off1 i 4736#32) (o2 := k0_off4 i 4736#32) (k0_off1_inb i 1) (k0_off4_inb i 0)
      (4800 + 256 * (i 0).val) _ _ (off1_1 i) (off4_1 i) (by omega) (by omega),
    even_last c M4 f4 _ _ r C (o1 := k0_off1 i 0#32) (o2 := k0_off3 i) (k0_off1_inb i 0) (k0_off3_inb i h2) (0 + 256 * (i 0).val) _ (off1_0 i) (off3 i) (by omega)]
  exact nest_last (tiles c M1 M2 M3 f1 f2 f3) (i 0).val ((cond2 i).1 h2) (M4.view.read (Elt Ideal) f4 (ix2 r C)) r C

/-- The scale a point multiplies by is the one element of the scale's buffer. -/
theorem sca_apply : sca c M1 f1 = M1.view.read (Elt Ideal) f1 (ix1 0) := by
  unfold sca runFull.sl.r
  rw [View.readAt_apply]
  exact congrArg _ (funext fun a => Fin.ext (by fin_cases a; rfl))

/-- One element of a point's tile: the sum of products over the contracted axis, times the scale. -/
theorem tiles_apply (j : Fin 4) (r l : Fin 256) :
    tiles c M1 M2 M3 f1 f2 f3 j (ix2 r l)
      = (∑ k : Fin 28, ∑ q : Fin 256, M2.view.read (Elt Ideal) f2 (ix2 r ⟨256 * k.val + q.val, by omega⟩)
          * trit j (M3.view.read (Elt Ideal) f3 (ix2 ⟨256 * k.val + q.val, by omega⟩ l))) * M1.view.read (Elt Ideal) f1 (ix1 0) := by
  unfold tiles T
  rw [tile_apply, sca_apply]
  congr 1
  refine Finset.sum_congr rfl fun k _ => Finset.sum_congr rfl fun q _ => ?_
  rw [xblk_apply, wblk_apply]

end Cert.KernelIdeal.Hand

end
-- ==== Proof.Windows.lean ====
module

public import proofs.«01_k».proof.Proof.Point
public import proofs.«01_k».proof.Proof.KernelIdeal.Run
public import Idealize.ShloMosaic.Lib.Claim
public import Idealize.ShloMosaic.Lib.StableHlo.ReadAt
public import Idealize.ShloMosaic.Lib.Pipeline.ValueKit

@[expose] public section

set_option maxRecDepth 16384

/-! # What the windows bring to a grid point

The scale and the activations arrive whole; the packed weights arrive as the block of columns from `256 t` on, of which
only the columns inside the array are known. -/

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-- A point's one coordinate is its number. -/
theorem coord_val : ∀ t : Fin cfg0.N, (cfg0.grid.coords t 0).val = t.val := (by decide : ∀ t : Fin grid0.N, (grid0.coords t 0).val = t.val)
theorem point_val_lt (t : Fin cfg0.N) : t.val < 19 := t.isLt

/-- The scale's block is the one element of its array. -/
theorem iblk0_apply (c : Dev nD) (t : Fin cfg0.N) : iblk m c 0 t (ix1 0) = V m c main_v0 (ix1 0) := by
  unfold iblk
  refine congrArg (V m c main_v0) (funext fun a => Fin.ext ?_)
  refine (Pipeline.Window.rect_emb_val win0_0 t _ a).trans ?_
  fin_cases a; rfl

/-- The activations' block is the whole array. -/
theorem iblk1_apply (c : Dev nD) (t : Fin cfg0.N) (r : Fin 256) (k : Fin 7168) : iblk m c 1 t (ix2 r k) = V m c main_v1 (ix2 r k) := by
  unfold iblk
  refine congrArg (V m c main_v1) (funext fun a => Fin.ext ?_)
  refine (Pipeline.Window.rect_emb_val win0_1 t _ a).trans ?_
  fin_cases a
  · show 0 * 256 + r.val = r.val; omega
  · show 0 * 7168 + k.val = k.val; omega

/-- The packed weights' block index at point `t` is `(0, t)`. -/
theorem index2_0 (t : Fin cfg0.N) : win0_2.index t 0 = 0 := rfl
theorem index2_1 (t : Fin cfg0.N) : win0_2.index t 1 = t.val := by
  show (BitVec.ofNat 32 (grid0.coords t 0).val).toNat = t.val
  have h1 := coord_val t
  have h2 := point_val_lt t
  rw [BitVec.toNat_ofNat, show (grid0.coords t 0).val = t.val from h1]
  omega

/-- Contents filled by a transfer, read at an index the transfer moves. -/
theorem fill_apply {sig : RefSig} {G : Pipeline.Grid} (w : Pipeline.Window sig G) {α : Type} (i : G.Coords) (d : w.block.Idx → α)
    (g : (w.xblock i).Idx → α) (j : w.block.Idx) (h : ∀ a, (j a).val < w.xsize i a) : w.fill i d g j = g fun a => ⟨(j a).val, h a⟩ := by
  unfold Pipeline.Window.fill
  rw [dif_pos ((w.moved_iff i j).mpr h)]

/-- Inside the array, the packed weights' buffer holds the array's columns from `256 t` on. -/
theorem wblock_apply (c : Dev nD) (t : Fin cfg0.N) (Y : (cfg0.win 2).block.Idx → Elt Ideal (cfg0.win 2).elt) (h : WBlock m c t Y)
    (k : Fin 7168) (l : Fin 256) (hl : 256 * t.val + l.val < 4800) : Y (ix2 k l) = V m c main_arg1 (ix2 k ⟨256 * t.val + l.val, hl⟩) := by
  obtain ⟨d, rfl⟩ := h
  have h0 : k.val < (Pipeline.Clip.of (win0_2.index t 0) 7168 7168).extent 7168 := by
    rw [index2_0]; unfold Pipeline.Clip.of; rw [if_pos (by omega)]; exact k.isLt
  have h1 : l.val < (Pipeline.Clip.of (win0_2.index t 1) 256 4800).extent 256 := by
    have := l.isLt
    rw [index2_1]; unfold Pipeline.Clip.of
    split
    · exact l.isLt
    · show l.val < 4800 - t.val * 256; omega
  have hx : ∀ a, (ix2 k l a).val < win0_2.xsize (grid0.coords t) a := fun a => by
    fin_cases a
    · exact h0
    · exact h1
  refine (fill_apply win0_2 (grid0.coords t) d (iblk m c 2 t) (ix2 k l) hx).trans ?_
  unfold iblk
  refine congrArg (V m c main_arg1) (funext fun a => Fin.ext ?_)
  refine (Pipeline.Window.rect_emb_val win0_2 t _ a).trans ?_
  fin_cases a
  · show win0_2.index t 0 * 7168 + k.val = k.val; rw [index2_0]; omega
  · show win0_2.index t 1 * 256 + l.val = 256 * t.val + l.val; rw [index2_1]; omega

/-- The arrays the launch makes from the arguments, read at an index. -/
theorem v0_apply (c : Dev nD) : V m c main_v0 (ix1 0) = m ((c.tc : Thread nD τ).loc main_arg2) ix0 := by
  unfold V
  after_reads_at
theorem v1_apply (c : Dev nD) (r : Fin 256) (k : Fin 7168) :
    V m c main_v1 (ix2 r k) = m ((c.tc : Thread nD τ).loc main_arg0) (ix3 ⟨r.val / 128, by omega⟩ ⟨r.val % 128, by omega⟩ k) := by
  unfold V
  after_reads_at

end Cert.KernelIdeal.Hand

end
-- ==== Proof.Result.lean ====
module

public import proofs.«01_k».proof.Proof.Windows
public import Idealize.ShloMosaic.Lib.Pipeline.ArrRel

@[expose] public section

set_option maxRecDepth 16384

/-! # What the launch leaves in the result

Each grid point settles its own columns of the output and keeps the others, so after the last point every column is settled. -/

noncomputable section

namespace Cert.KernelIdeal.Hand

open Cert.KernelIdeal Cert.KernelIdeal.Gen Cert.Bits
open Idealize.ShloMosaic Idealize.ShloMosaic.TcCoe Idealize.ShloMosaic.Tactic
open Idealize.ShloMosaic.Pipeline (RDat)

/-- A row of activations against a column of packed weights' field `j`, times the scale: the sum in 28 blocks of 256. -/
def entry (s : EReal) (x : Fin 7168 → EReal) (w : Fin 7168 → BitVec 8) (j : Fin 4) : EReal :=
  (∑ k : Fin 28, ∑ q : Fin 256, x ⟨256 * k.val + q.val, by omega⟩ * trit j (w ⟨256 * k.val + q.val, by omega⟩)) * s

variable (m : (ℓ : Loc nD τ sig) → Buf (Elt Ideal) ℓ)

/-- The result at row `r` and column `C`, over the arrays the launch finds. -/
def out (c : Dev nD) (r : Fin 256) (C : Fin 19200) : EReal :=
  entry (V m c main_v0 (ix1 0)) (fun k => V m c main_v1 (ix2 r k)) (fun k => V m c main_arg1 (ix2 k ⟨C.val % 4800, by omega⟩)) ⟨C.val / 4800, by omega⟩

/-- What a point leaves at an index: its tile there in its own columns, what it found in the others. -/
theorem outAt_apply (c : Dev nD) (t : Fin cfg0.N) (f1 : Bf (F := Ideal) c (st0_0 t)) (f2 : Bf (F := Ideal) c (st0_1 t)) (f3 : Bf (F := Ideal) c (st0_2 t))
    (f4 : Bf (F := Ideal) c (st0_3 t)) (r : Fin 256) (C : Fin 19200) :
    (st0_3 t).view.read (Elt Ideal) (outAt c t f1 f2 f3 f4) (ix2 r C)
      = fields (tiles c (st0_0 t) (st0_1 t) (st0_2 t) f1 f2 f3) (cfg0.grid.coords t 0).val ((st0_3 t).view.read (Elt Ideal) f4 (ix2 r C)) r C := by
  unfold outAt
  split
  · exact full_apply c (grid0.coords t) (st0_0 t) (whole0 t) (st0_1 t) (whole1 t) (st0_2 t) (whole2 t) (st0_3 t) (whole3 t) f1 f2 f3 f4 _ _ _ _ _ _ r C
  · exact last_apply c (grid0.coords t) (st0_0 t) (whole0 t) (st0_1 t) (whole1 t) (st0_2 t) (whole2 t) (st0_3 t) (whole3 t) f1 f2 f3 f4 _ _ _ _ _ _ r C

/-- A point's own columns hold the result after it. -/
theorem step_in (c : Dev nD) (t : Fin cfg0.N) (Y X : (cfg0.win 3).block.Idx → Elt Ideal (cfg0.win 3).elt) (h : OutStep m c t Y X)
    (r : Fin 256) (C : Fin 19200) (hC : (C.val % 4800) / 256 = t.val) : X (ix2 r C) = out m c r C := by
  obtain ⟨f1, f2, f3, f4, e1, e2, e3, e4, rfl⟩ := h
  have hs : (st0_0 t).view.read (Elt Ideal) f1 (ix1 0) = V m c main_v0 (ix1 0) := (congrFun e1 _).trans (iblk0_apply m c t)
  have hx : ∀ k, (st0_1 t).view.read (Elt Ideal) f2 (ix2 r k) = V m c main_v1 (ix2 r k) := fun k => (congrFun e2 _).trans (iblk1_apply m c t r k)
  have hw : ∀ k, (st0_2 t).view.read (Elt Ideal) f3 (ix2 k ⟨C.val % 4800 - 256 * t.val, by omega⟩) = V m c main_arg1 (ix2 k ⟨C.val % 4800, by omega⟩) := fun k =>
    (wblock_apply m c t _ e3 k ⟨C.val % 4800 - 256 * t.val, by omega⟩ (by show 256 * t.val + (C.val % 4800 - 256 * t.val) < 4800; omega)).trans
      (congrArg (fun l : Fin 4800 => V m c main_arg1 (ix2 k l)) (Fin.ext (by show 256 * t.val + (C.val % 4800 - 256 * t.val) = C.val % 4800; omega)))
  refine (outAt_apply c t f1 f2 f3 f4 r C).trans ?_
  rw [coord_val t]
  clear e1 e2 e3 e4
  unfold fields
  rw [dif_pos hC]
  refine (tiles_apply c (st0_0 t) (st0_1 t) (st0_2 t) f1 f2 f3 _ r _).trans ?_
  unfold out entry
  exact congrArg₂ (· * ·) (Finset.sum_congr rfl fun k _ => Finset.sum_congr rfl fun q _ =>
    congrArg₂ (· * ·) (hx _) (congrArg (trit _) (hw _))) hs

/-- The other columns hold what they held. -/
theorem step_out (c : Dev nD) (t : Fin cfg0.N) (Y X : (cfg0.win 3).block.Idx → Elt Ideal (cfg0.win 3).elt) (h : OutStep m c t Y X)
    (r : Fin 256) (C : Fin 19200) (hC : ¬ (C.val % 4800) / 256 = t.val) : X (ix2 r C) = Y (ix2 r C) := by
  obtain ⟨f1, f2, f3, f4, e1, e2, e3, rfl, rfl⟩ := h
  refine (outAt_apply c t f1 f2 f3 f4 r C).trans ?_
  rw [coord_val t]
  unfold fields
  rw [dif_neg hC]

/-- The output's buffer is never fetched into. -/
theorem fetch3 (t : Fin cfg0.N) : (cfg0.win 3).fetch t = false := rfl

/-- After point `n` every column of the points up to `n` holds the result. -/
theorem leaves_out (c : Dev nD) : ∀ (n : Nat) (t : Fin cfg0.N) (_ : t.val = n) (X : (cfg0.win 3).block.Idx → Elt Ideal (cfg0.win 3).elt)
    (_ : (rdat (F := Ideal) m c).Leaves 3 t X) (r : Fin 256) (C : Fin 19200) (_ : (C.val % 4800) / 256 ≤ n), X (ix2 r C) = out m c r C := by
  intro n
  induction n with
  | zero =>
    intro t ht X hX r C hC
    obtain ⟨Y, -, hs⟩ := hX
    exact step_in m c t Y X hs r C (by omega)
  | succ n ih =>
    intro t ht X hX r C hC
    obtain ⟨Y, hY, hs⟩ := hX
    by_cases h : (C.val % 4800) / 256 = t.val
    · exact step_in m c t Y X hs r C h
    · rw [step_out m c t Y X hs r C h]
      have hl := point_val_lt t
      rcases ((rdat (F := Ideal) m c).finds_of_pos (fetch3 t) (by omega) Y).mp hY with hf | hL
      · have := (flush0_3 _).mp hf
        have hv : (t.val - 1) % 19 = 18 := this
        omega
      · exact ih _ (by show t.val - 1 = n; omega) Y hL r C (by omega)

/-- The result window's one write-back is of the whole array, at the last point. -/
theorem wholeAt3 : ∀ t : Fin cfg0.N, t.val % 19 = 18 → (cfg0.win 3).WholeAt t := fun t ht =>
  ⟨(flush0_3 t).mpr ht, fun t' h => Fin.ext (by have := (flush0_3 t').mp h; have := point_val_lt t; have := point_val_lt t'; omega),
    fun a => by fin_cases a <;> exact ⟨rfl, rfl⟩⟩

/-- There is a last point. -/
theorem exists_last : ∃ t : Fin cfg0.N, t.val = 18 := (by decide : ∃ t : Fin grid0.N, t.val = 18)

/-- Any contents the run may leave in the result array are the result, element by element. -/
theorem arr_out (c : Dev nD) (G : Buf (Elt Ideal) ((c.tc : Thread nD τ).loc main_v2)) (hG : (rdat (F := Ideal) m c).ArrAt 3 cfg0.N G)
    (r : Fin 256) (C : Fin 19200) : G (ix2 r C) = out m c r C := by
  obtain ⟨t, ht⟩ := exists_last
  obtain ⟨X, hL, hX⟩ := hG.emb_eq_of_wholeAt (wholeAt3 t (by rw [ht]))
  exact (hX (ix2 r C)).trans (leaves_out m c 18 t ht X hL r C (by omega))

end Cert.KernelIdeal.Hand

end
-- ==== Proof.Reference.lean ====
module

public import proofs.«01_k».proof.Proof.Gen.ReferenceIdeal.Run
public import proofs.«01_k».proof.Proof.Sums
public import Idealize.ShloMosaic.Lib.Pointwise
public import Idealize.ShloMosaic.Lib.Pipeline.ValueKit

@[expose] public section

set_option maxRecDepth 16384

/-! # What the reference computes

The reference's result at a row and a column, over the extended reals, is one sum over the 7168 products of an activation
and an unpacked weight, times the scale. -/

noncomputable section

namespace Cert.ReferenceIdeal.Hand

open Cert.ReferenceIdeal Cert.ReferenceIdeal.Facts₀ Cert.Bits
open Idealize.ShloMosaic Idealize.ShloMosaic.TcCoe Idealize.ShloMosaic.Tactic

/-- The reference's composed term, over its three arguments. -/
def ref (A : FVec Ideal S2x128x7168 .bf16) (W : IVec S7168x4800 8) (s : FVec Ideal S_ .f32) : FVec Ideal S256x19200 .bf16 :=
  shapeCast S256x19200 (truncf .bf16 (mulf (shapeCast S2x128x19200 (Host.dotGeneral dot_S2x128x7168_S4x7168x4800_S2x128x4x4800_2_1_01_02_n_n none A (subf (sitofp .bf16 (andi (Host.shrsi (broadcastInDim S4x7168x4800 ![0, 1, 2] bcast_S1x7168x4800_S4x7168x4800_0_1_2 (broadcastInDim S1x7168x4800 ![1, 2] bcast_S7168x4800_S1x7168x4800_1_2 (extui 32 W natLt_8_32))) (broadcastInDim S4x7168x4800 ![0, 1, 2] bcast_S4x1x1_S4x7168x4800_0_1_2 (broadcastInDim S4x1x1 ![0] bcast_S4_S4x1x1_0 (muli (iotaInDim S4 32 0) (broadcastInDim S4 ![] bcast_S_S4 (constantI S_ 32 2#32)))))) (broadcastInDim S4x7168x4800 ![] bcast_S_S4x7168x4800 (constantI S_ 32 3#32)))) (broadcastInDim S4x7168x4800 ![] bcast_S_S4x7168x4800 (constant S_ .bf16 0x3F80#16)))) shapeCasts_S2x128x4x4800_S2x128x19200) (broadcastInDim S2x128x19200 ![] bcast_S_S2x128x19200 s)) bitsLt_bf16_f32) shapeCasts_S2x128x19200_S256x19200

/-- The reference's shift amount for field `j`. -/
theorem amount (j : Fin 4) : IntOp.muli (BitVec.ofNat 32 j.val) 2#32 = sh j := by
  revert j; decide

/-- The reference at row `r` and column `C`: field `C / 4800` of the weights' column `C % 4800`, against the activations' row. -/
theorem ref_apply (A : FVec Ideal S2x128x7168 .bf16) (W : IVec S7168x4800 8) (s : FVec Ideal S_ .f32) (r : Fin 256) (C : Fin 19200) :
    ref A W s (ix2 r C)
      = (∑ k : Fin 7168, A (ix3 ⟨r.val / 128, by omega⟩ ⟨r.val % 128, by omega⟩ k)
          * Cert.KernelIdeal.Hand.trit ⟨C.val / 4800, by omega⟩ (W (ix2 k ⟨C.val % 4800, by omega⟩))) * s ix0 := by
  unfold ref
  pointwise
  refine congrArg (· * s ix0) (Finset.sum_congr rfl fun k _ => ?_)
  have hj : C.val / 4800 < 4 := by omega
  have e := field_toInt ⟨C.val / 4800, hj⟩ (W (ix2 k ⟨C.val % 4800, by omega⟩))
  rw [← amount ⟨C.val / 4800, hj⟩] at e
  unfold Cert.KernelIdeal.Hand.trit
  rw [← e]
  rfl

/-- The sum over 7168 products is the sum over 28 blocks of 256. -/
theorem sum_blocks (f : Fin 7168 → EReal) :
    ∑ k : Fin 7168, f k = ∑ k : Fin 28, ∑ q : Fin 256, f ⟨256 * k.val + q.val, by omega⟩ := by
  rw [← Fin.sum_mul_add_fin 28 256 f]
  refine Finset.sum_congr rfl fun k _ => Finset.sum_congr rfl fun q _ => congrArg f (Fin.ext ?_)
  show k.val * 256 + q.val = 256 * k.val + q.val
  omega

end Cert.ReferenceIdeal.Hand

end
-- ==== Proof.lean ====
/-
  The claims of this certificate: the kernel and its idealization run and leave their arguments as they were, the reference does,
  and the idealized kernel computes the reference's array.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Result
public import proofs.«01_k».proof.Proof.Reference

@[expose] public section

noncomputable section

namespace Cert.Proof

open Idealize.ShloMosaic Idealize.SL.Sem Cert.Kernel

/-- The reference runs, its arguments end unchanged and every counter is zero (it declares no semaphore). -/
theorem frame_reference : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩) (Cert.ReferenceIdeal.Value.run (F := Ideal) m g)

/-- Any contents the idealized kernel may leave in its result array are the reference's array of the kernel's arguments. -/
theorem result_eq (m : (ℓ : Loc Cert.KernelIdeal.nD Cert.KernelIdeal.τ Cert.KernelIdeal.sig) → Buf (Elt Ideal) ℓ) (c : Dev Cert.KernelIdeal.nD)
    (G : Buf (Elt Ideal) ((c.tc : Thread Cert.KernelIdeal.nD Cert.KernelIdeal.τ).loc Cert.KernelIdeal.main_v2))
    (hG : (Cert.KernelIdeal.Hand.rdat (F := Ideal) m c).ArrAt 3 Cert.KernelIdeal.cfg0.N G) :
    G = Cert.ReferenceIdeal.Hand.ref (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) := by
  refine funext fun (y : Cert.KernelIdeal.S256x19200.Idx) => ?_
  obtain ⟨r, C, rfl⟩ : ∃ (r : Fin 256) (C : Fin 19200), y = ix2 r C := ⟨y 0, y 1, by funext a; fin_cases a <;> rfl⟩
  refine (Cert.KernelIdeal.Hand.arr_out m c G hG r C).trans (Eq.trans ?_ (Cert.ReferenceIdeal.Hand.ref_apply _ _ _ r C).symm)
  rw [Cert.ReferenceIdeal.Hand.sum_blocks]
  unfold Cert.KernelIdeal.Hand.out Cert.KernelIdeal.Hand.entry
  rw [Cert.KernelIdeal.Hand.v0_apply, Cert.KernelIdeal.Gen.V_main_arg1]
  refine congrArg (· * _) (Finset.sum_congr rfl fun k _ => Finset.sum_congr rfl fun q _ => ?_)
  exact congrArg (· * _) (Cert.KernelIdeal.Hand.v1_apply m c r _)

/-- The idealized kernel computes the reference's array. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.ReferenceIdeal.Hand.ref (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run _ _ _).mono (fun r h c => ?_) (Cert.KernelIdeal.Hand.run_main (F := Ideal) m g)
    exact ⟨result_eq m c _ ((h.1 c).1 3), ((h.1 c).2 Cert.KernelIdeal.main_arg0 (Pipeline.mem_restRefs_of Cert.KernelIdeal.main_arg0 (by decide) (by decide))).trans (Cert.KernelIdeal.Gen.V_main_arg0 m c),
      (h.1.arr_in c 2 rfl).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c)⟩
  · refine (θ_run _ _ _).mono (fun r h c => ⟨(h c).1.trans ?_, (h c).2⟩) (Cert.ReferenceIdeal.Value.run (F := Ideal) m' g')
    obtain ⟨e0, e1, e2⟩ := hagree c
    rw [e0, e1, e2]
    rfl

theorem claim : Cert.Claim := ⟨Cert.Kernel.Gen.facts, Cert.KernelIdeal.Gen.facts, Cert.ReferenceIdeal.Gen.facts,
  fun m g _ => Cert.Kernel.Hand.frame_main m g, fun m g _ => Cert.KernelIdeal.Hand.frame_main m g, frame_reference, trivial, algebraic⟩

end Cert.Proof

end
